-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "big" .f32 0x7149F2CA#32 ⊤
  ∧ IdealRules.named_const.Statement Cert.KernelIdeal.κ "inv_alpha_ln2" .f32 0x431044FE#32 ((100 * (Real.log 2)⁻¹ : ℝ) : EReal)
  ∧ IdealRules.named_const.Statement Cert.KernelIdeal.κ "log2e" .f32 0x3FB8AA3B#32 (((Real.log 2)⁻¹ : ℝ) : EReal)
  ∧ IdealRules.named_const.Statement Cert.KernelIdeal.κ "alpha_ln2" .f32 0x3BE32166#32 (((1 / 100) * (Real.log 2) : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x1024 : Shape := ⟨2, ![512, 1024]⟩
abbrev S1x1 : Shape := ⟨2, ![1, 1]⟩
abbrev S_ : Shape := ⟨0, ![]⟩
abbrev S512x8x128 : Shape := ⟨3, ![512, 8, 128]⟩
abbrev S4x512x128 : Shape := ⟨3, ![4, 512, 128]⟩
abbrev S512x128 : Shape := ⟨2, ![512, 128]⟩
abbrev S128x1024 : Shape := ⟨2, ![128, 1024]⟩
abbrev S1x128 : Shape := ⟨2, ![1, 128]⟩
abbrev S511x128 : Shape := ⟨2, ![511, 128]⟩
abbrev S2x128 : Shape := ⟨2, ![2, 128]⟩
abbrev S510x128 : Shape := ⟨2, ![510, 128]⟩
abbrev S4x128 : Shape := ⟨2, ![4, 128]⟩
abbrev S508x128 : Shape := ⟨2, ![508, 128]⟩
abbrev S8x128 : Shape := ⟨2, ![8, 128]⟩
abbrev S504x128 : Shape := ⟨2, ![504, 128]⟩
abbrev S16x128 : Shape := ⟨2, ![16, 128]⟩
abbrev S496x128 : Shape := ⟨2, ![496, 128]⟩
abbrev S32x128 : Shape := ⟨2, ![32, 128]⟩
abbrev S480x128 : Shape := ⟨2, ![480, 128]⟩
abbrev S64x128 : Shape := ⟨2, ![64, 128]⟩
abbrev S448x128 : Shape := ⟨2, ![448, 128]⟩
abbrev S128x128 : Shape := ⟨2, ![128, 128]⟩
abbrev S384x128 : Shape := ⟨2, ![384, 128]⟩
abbrev S256x128 : Shape := ⟨2, ![256, 128]⟩
abbrev S1x512x128 : Shape := ⟨3, ![1, 512, 128]⟩
abbrev S1x8x128 : Shape := ⟨3, ![1, 8, 128]⟩
abbrev S1 : Shape := ⟨1, ![1]⟩
abbrev S1x1x1 : Shape := ⟨3, ![1, 1, 1]⟩

abbrev nBuf : Space → Nat
  | .hbm => 4
  | .vmem => 6
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S1x1, .f32⟩
  | .hbm, ⟨3, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S1x1, .f32⟩
  | .local _ .vmem, ⟨3, _⟩ => ⟨S512x8x128, .f32⟩
  | .local _ .vmem, ⟨4, _⟩ => ⟨S512x8x128, .f32⟩
  | .local _ .vmem, ⟨5, _⟩ => ⟨S4x512x128, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

@[reducible] def k0_t1_loop : Scf.Loop 32 :=
  let c0_i32_86 : BitVec 32 := 0#32
  let c64_i32_87 : BitVec 32 := 64#32
  let v295 : BitVec 32 := Scalar.addi c0_i32_86 c64_i32_87
  let c1_i32_88 : BitVec 32 := 1#32
  ⟨c0_i32_86, v295, c1_i32_88⟩
def k0_mult1 (k0_t1 : Fin k0_t1_loop.trips) : BitVec 32 :=
  let c0_i32_86 : BitVec 32 := 0#32
  let c1_i32_88 : BitVec 32 := 1#32
  let arg6 : BitVec 32 := Scf.iv c0_i32_86 c1_i32_88 k0_t1
  let c8_i32_127 : BitVec 32 := 8#32
  let v343 : BitVec 32 := Scalar.muli arg6 c8_i32_127
  v343
def k0_off1 (k0_t1 : Fin k0_t1_loop.trips) : Fin 3 → Nat :=
  let c0_128 : Index := 0#32
  let c0_i32_86 : BitVec 32 := 0#32
  let c1_i32_88 : BitVec 32 := 1#32
  let arg6 : BitVec 32 := Scf.iv c0_i32_86 c1_i32_88 k0_t1
  let c8_i32_127 : BitVec 32 := 8#32
  let v343 : BitVec 32 := Scalar.muli arg6 c8_i32_127
  let v344 : BitVec 32 := v343
  let v345 : Index := Scalar.indexCast v344
  let c0_129 : Index := 0#32
  ![0, v345.toNat, 0]
def k0_off2 (k0_t1 : Fin k0_t1_loop.trips) : Fin 3 → Nat :=
  let c1_130 : Index := 1#32
  let c0_i32_86 : BitVec 32 := 0#32
  let c1_i32_88 : BitVec 32 := 1#32
  let arg6 : BitVec 32 := Scf.iv c0_i32_86 c1_i32_88 k0_t1
  let c8_i32_127 : BitVec 32 := 8#32
  let v343 : BitVec 32 := Scalar.muli arg6 c8_i32_127
  let v344 : BitVec 32 := v343
  let v348 : Index := Scalar.indexCast v344
  let c0_131 : Index := 0#32
  ![1, v348.toNat, 0]
def k0_off3 (k0_t1 : Fin k0_t1_loop.trips) : Fin 3 → Nat :=
  let c2_132 : Index := 2#32
  let c0_i32_86 : BitVec 32 := 0#32
  let c1_i32_88 : BitVec 32 := 1#32
  let arg6 : BitVec 32 := Scf.iv c0_i32_86 c1_i32_88 k0_t1
  let c8_i32_127 : BitVec 32 := 8#32
  let v343 : BitVec 32 := Scalar.muli arg6 c8_i32_127
  let v344 : BitVec 32 := v343
  let v351 : Index := Scalar.indexCast v344
  let c0_133 : Index := 0#32
  ![2, v351.toNat, 0]
def k0_off4 (k0_t1 : Fin k0_t1_loop.trips) : Fin 3 → Nat :=
  let c3_134 : Index := 3#32
  let c0_i32_86 : BitVec 32 := 0#32
  let c1_i32_88 : BitVec 32 := 1#32
  let arg6 : BitVec 32 := Scf.iv c0_i32_86 c1_i32_88 k0_t1
  let c8_i32_127 : BitVec 32 := 8#32
  let v343 : BitVec 32 := Scalar.muli arg6 c8_i32_127
  let v344 : BitVec 32 := v343
  let v354 : Index := Scalar.indexCast v344
  let c0_135 : Index := 0#32
  ![3, v354.toNat, 0]
def k0_off5 (k0_t1 : Fin k0_t1_loop.trips) (c0_i32_144 : BitVec 32) : Fin 3 → Nat :=
  let c0_i32_86 : BitVec 32 := 0#32
  let c1_i32_88 : BitVec 32 := 1#32
  let arg6 : BitVec 32 := Scf.iv c0_i32_86 c1_i32_88 k0_t1
  let c8_i32_127 : BitVec 32 := 8#32
  let v343 : BitVec 32 := Scalar.muli arg6 c8_i32_127
  let v344 : BitVec 32 := v343
  let v376 : BitVec 32 := Scalar.addi v344 c0_i32_144
  let v377 : Index := Scalar.indexCast v376
  let c0_145 : Index := 0#32
  let c0_146 : Index := 0#32
  ![v377.toNat, 0, 0]
@[reducible] def k0_t2_loop : Scf.Loop 32 :=
  let c0_i32_102 : BitVec 32 := 0#32
  let c64_i32_103 : BitVec 32 := 64#32
  let v308 : BitVec 32 := Scalar.addi c0_i32_102 c64_i32_103
  let c1_i32_104 : BitVec 32 := 1#32
  ⟨c0_i32_102, v308, c1_i32_104⟩
def k0_mult2 (k0_t2 : Fin k0_t2_loop.trips) : BitVec 32 :=
  let c0_i32_102 : BitVec 32 := 0#32
  let c1_i32_104 : BitVec 32 := 1#32
  let arg6 : BitVec 32 := Scf.iv c0_i32_102 c1_i32_104 k0_t2
  let c8_i32_127 : BitVec 32 := 8#32
  let v343 : BitVec 32 := Scalar.muli arg6 c8_i32_127
  v343
def k0_off6 (k0_t2 : Fin k0_t2_loop.trips) : Fin 3 → Nat :=
  let c0_128 : Index := 0#32
  let c0_i32_102 : BitVec 32 := 0#32
  let c1_i32_104 : BitVec 32 := 1#32
  let arg6 : BitVec 32 := Scf.iv c0_i32_102 c1_i32_104 k0_t2
  let c8_i32_127 : BitVec 32 := 8#32
  let v343 : BitVec 32 := Scalar.muli arg6 c8_i32_127
  let v344 : BitVec 32 := v343
  let v345 : Index := Scalar.indexCast v344
  let c0_129 : Index := 0#32
  ![0, v345.toNat, 0]
def k0_off7 (k0_t2 : Fin k0_t2_loop.trips) : Fin 3 → Nat :=
  let c1_130 : Index := 1#32
  let c0_i32_102 : BitVec 32 := 0#32
  let c1_i32_104 : BitVec 32 := 1#32
  let arg6 : BitVec 32 := Scf.iv c0_i32_102 c1_i32_104 k0_t2
  let c8_i32_127 : BitVec 32 := 8#32
  let v343 : BitVec 32 := Scalar.muli arg6 c8_i32_127
  let v344 : BitVec 32 := v343
  let v348 : Index := Scalar.indexCast v344
  let c0_131 : Index := 0#32
  ![1, v348.toNat, 0]
def k0_off8 (k0_t2 : Fin k0_t2_loop.trips) : Fin 3 → Nat :=
  let c2_132 : Index := 2#32
  let c0_i32_102 : BitVec 32 := 0#32
  let c1_i32_104 : BitVec 32 := 1#32
  let arg6 : BitVec 32 := Scf.iv c0_i32_102 c1_i32_104 k0_t2
  let c8_i32_127 : BitVec 32 := 8#32
  let v343 : BitVec 32 := Scalar.muli arg6 c8_i32_127
  let v344 : BitVec 32 := v343
  let v351 : Index := Scalar.indexCast v344
  let c0_133 : Index := 0#32
  ![2, v351.toNat, 0]
def k0_off9 (k0_t2 : Fin k0_t2_loop.trips) : Fin 3 → Nat :=
  let c3_134 : Index := 3#32
  let c0_i32_102 : BitVec 32 := 0#32
  let c1_i32_104 : BitVec 32 := 1#32
  let arg6 : BitVec 32 := Scf.iv c0_i32_102 c1_i32_104 k0_t2
  let c8_i32_127 : BitVec 32 := 8#32
  let v343 : BitVec 32 := Scalar.muli arg6 c8_i32_127
  let v344 : BitVec 32 := v343
  let v354 : Index := Scalar.indexCast v344
  let c0_135 : Index := 0#32
  ![3, v354.toNat, 0]
def k0_off10 (k0_t2 : Fin k0_t2_loop.trips) (c0_i32_144 : BitVec 32) : Fin 3 → Nat :=
  let c0_i32_102 : BitVec 32 := 0#32
  let c1_i32_104 : BitVec 32 := 1#32
  let arg6 : BitVec 32 := Scf.iv c0_i32_102 c1_i32_104 k0_t2
  let c8_i32_127 : BitVec 32 := 8#32
  let v343 : BitVec 32 := Scalar.muli arg6 c8_i32_127
  let v344 : BitVec 32 := v343
  let v376 : BitVec 32 := Scalar.addi v344 c0_i32_144
  let v377 : Index := Scalar.indexCast v376
  let c0_145 : Index := 0#32
  let c0_146 : Index := 0#32
  ![v377.toNat, 0, 0]
@[reducible] def k0_t3_loop : Scf.Loop 32 :=
  let c2_i32_119 : BitVec 32 := 2#32
  let c1023_i32 : BitVec 32 := 1023#32
  let v329 : BitVec 32 := Scalar.addi c2_i32_119 c1023_i32
  let c1_i32_120 : BitVec 32 := 1#32
  ⟨c2_i32_119, v329, c1_i32_120⟩
def k0_off11 (k0_t3 : Fin k0_t3_loop.trips) (c2_i32_128 : BitVec 32) : Fin 3 → Nat :=
  let c2_i32_119 : BitVec 32 := 2#32
  let c1_i32_120 : BitVec 32 := 1#32
  let arg6 : BitVec 32 := Scf.iv c2_i32_119 c1_i32_120 k0_t3
  let v345 : BitVec 32 := Scalar.subi arg6 c2_i32_128
  let c511_i32_129 : BitVec 32 := 511#32
  let v346 : BitVec 32 := Scalar.andi v345 c511_i32_129
  let v349 : Index := Scalar.indexCast v346
  let c0_131 : Index := 0#32
  let c0_132 : Index := 0#32
  ![v349.toNat, 0, 0]
abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== KernelIdeal.lean ====
variable {F : FTy → Type} [FloatOps F] [Named F]
def κ : String → Option EReal := fun
  | "alpha_ln2" => some (((1 / 100) * (Real.log 2) : ℝ) : EReal)
  | "big" => some ⊤
  | "inv_alpha_ln2" => some ((100 * (Real.log 2)⁻¹ : ℝ) : EReal)
  | "log2e" => some (((Real.log 2)⁻¹ : ℝ) : EReal)
  | _ => none
-- ==== ReferenceIdeal.lean ====
abbrev S512x1024 : Shape := ⟨2, ![512, 1024]⟩
abbrev S1024x512 : Shape := ⟨2, ![1024, 512]⟩
abbrev S512x512 : Shape := ⟨2, ![512, 512]⟩
abbrev S513x513 : Shape := ⟨2, ![513, 513]⟩
abbrev S_ : Shape := ⟨0, ![]⟩
abbrev S1x1 : Shape := ⟨2, ![1, 1]⟩

abbrev nBuf : Space → Nat
  | .hbm => 202
  | .vmem => 0
  | .smem => 0
  | _ => 0

abbrev hbmTy0_0 (i : Nat) : BufTy := match i % 128 with
  | 0 => ⟨S512x1024, .f32⟩
  | 1 => ⟨S512x1024, .f32⟩
  | 2 => ⟨S1024x512, .f32⟩
  | 3 => ⟨S512x512, .f32⟩
  | 4 => ⟨S512x512, .f32⟩
  | 5 => ⟨S513x513, .i32⟩
  | 6 => ⟨S513x513, .i32⟩
  | 7 => ⟨S513x513, .i32⟩
  | 8 => ⟨S513x513, .f32⟩
  | 9 => ⟨S_, .f32⟩
  | 10 => ⟨S513x513, .f32⟩
  | 11 => ⟨S513x513, .f32⟩
  | 12 => ⟨S_, .i32⟩
  | 13 => ⟨S_, .i32⟩
  | 14 => ⟨S512x512, .f32⟩
  | 15 => ⟨S_, .i32⟩
  | 16 => ⟨S_, .i32⟩
  | 17 => ⟨S513x513, .f32⟩
  | 18 => ⟨S_, .i32⟩
  | 19 => ⟨S_, .i1⟩
  | 20 => ⟨S_, .i32⟩
  | 21 => ⟨S_, .i32⟩
  | 22 => ⟨S_, .f32⟩
  | 23 => ⟨S_, .f32⟩
  | 24 => ⟨S_, .f32⟩
  | 25 => ⟨S_, .i32⟩
  | 26 => ⟨S_, .i32⟩
  | 27 => ⟨S_, .i32⟩
  | 28 => ⟨S_, .i32⟩
  | 29 => ⟨S_, .i32⟩
  | 30 => ⟨S_, .i32⟩
  | 31 => ⟨S_, .i32⟩
  | 32 => ⟨S_, .i32⟩
  | 33 => ⟨S_, .i32⟩
  | 34 => ⟨S_, .i1⟩
  | 35 => ⟨S_, .i32⟩
  | 36 => ⟨S_, .i1⟩
  | 37 => ⟨S_, .i1⟩
  | 38 => ⟨S_, .i32⟩
  | 39 => ⟨S_, .i32⟩
  | 40 => ⟨S_, .i32⟩
  | 41 => ⟨S_, .i32⟩
  | 42 => ⟨S_, .i32⟩
  | 43 => ⟨S_, .i32⟩
  | 44 => ⟨S_, .i32⟩
  | 45 => ⟨S_, .i32⟩
  | 46 => ⟨S_, .i32⟩
  | 47 => ⟨S_, .i32⟩
  | 48 => ⟨S_, .i32⟩
  | 49 => ⟨S_, .i32⟩
  | 50 => ⟨S_, .i32⟩
  | 51 => ⟨S_, .i1⟩
  | 52 => ⟨S_, .i32⟩
  | 53 => ⟨S_, .i32⟩
  | 54 => ⟨S_, .i32⟩
  | 55 => ⟨S_, .i32⟩
  | 56 => ⟨S_, .i1⟩
  | 57 => ⟨S_, .i32⟩
  | 58 => ⟨S_, .i32⟩
  | 59 => ⟨S_, .i32⟩
  | 60 => ⟨S1x1, .f32⟩
  | 61 => ⟨S_, .f32⟩
  | 62 => ⟨S_, .i32⟩
  | 63 => ⟨S_, .i32⟩
  | 64 => ⟨S_, .i32⟩
  | 65 => ⟨S_, .i32⟩
  | 66 => ⟨S_, .i32⟩
  | 67 => ⟨S_, .i1⟩
  | 68 => ⟨S_, .i32⟩
  | 69 => ⟨S_, .i32⟩
  | 70 => ⟨S_, .i32⟩
  | 71 => ⟨S_, .i32⟩
  | 72 => ⟨S_, .i1⟩
  | 73 => ⟨S_, .i32⟩
  | 74 => ⟨S_, .i32⟩
  | 75 => ⟨S_, .i32⟩
  | 76 => ⟨S1x1, .f32⟩
  | 77 => ⟨S_, .f32⟩
  | 78 => ⟨S_, .f32⟩
  | 79 => ⟨S_, .i32⟩
  | 80 => ⟨S_, .i32⟩
  | 81 => ⟨S_, .i32⟩
  | 82 => ⟨S_, .i1⟩
  | 83 => ⟨S_, .i32⟩
  | 84 => ⟨S_, .i32⟩
  | 85 => ⟨S_, .i32⟩
  | 86 => ⟨S_, .i32⟩
  | 87 => ⟨S_, .i1⟩
  | 88 => ⟨S_, .i32⟩
  | 89 => ⟨S_, .i32⟩
  | 90 => ⟨S_, .i32⟩
  | 91 => ⟨S1x1, .f32⟩
  | 92 => ⟨S_, .f32⟩
  | 93 => ⟨S_, .f32⟩
  | 94 => ⟨S_, .f32⟩
  | 95 => ⟨S_, .i32⟩
  | 96 => ⟨S_, .i32⟩
  | 97 => ⟨S_, .i32⟩
  | 98 => ⟨S_, .i1⟩
  | 99 => ⟨S_, .i32⟩
  | 100 => ⟨S_, .i32⟩
  | 101 => ⟨S_, .i32⟩
  | 102 => ⟨S_, .i32⟩
  | 103 => ⟨S_, .i1⟩
  | 104 => ⟨S_, .i32⟩
  | 105 => ⟨S_, .i32⟩
  | 106 => ⟨S_, .i32⟩
  | 107 => ⟨S1x1, .f32⟩
  | 108 => ⟨S_, .f32⟩
  | 109 => ⟨S_, .f32⟩
  | 110 => ⟨S_, .f32⟩
  | 111 => ⟨S_, .i32⟩
  | 112 => ⟨S_, .i1⟩
  | 113 => ⟨S_, .i32⟩
  | 114 => ⟨S_, .i32⟩
  | 115 => ⟨S_, .i32⟩
  | 116 => ⟨S_, .i32⟩
  | 117 => ⟨S_, .i1⟩
  | 118 => ⟨S_, .i32⟩
  | 119 => ⟨S_, .i32⟩
  | 120 => ⟨S_, .i32⟩
  | 121 => ⟨S1x1, .f32⟩
  | 122 => ⟨S_, .f32⟩
  | 123 => ⟨S_, .i32⟩
  | 124 => ⟨S_, .i32⟩
  | 125 => ⟨S_, .i32⟩
  | 126 => ⟨S_, .i1⟩
  | 127 => ⟨S_, .i32⟩
  | _ => ⟨S512x1024, .f32⟩

abbrev hbmTy0_1 (i : Nat) : BufTy := match i % 128 with
  | 0 => ⟨S_, .i32⟩
  | 1 => ⟨S_, .i32⟩
  | 2 => ⟨S_, .i32⟩
  | 3 => ⟨S_, .i1⟩
  | 4 => ⟨S_, .i32⟩
  | 5 => ⟨S_, .i32⟩
  | 6 => ⟨S_, .i32⟩
  | 7 => ⟨S1x1, .f32⟩
  | 8 => ⟨S_, .f32⟩
  | 9 => ⟨S_, .f32⟩
  | 10 => ⟨S_, .i32⟩
  | 11 => ⟨S_, .i32⟩
  | 12 => ⟨S_, .i32⟩
  | 13 => ⟨S_, .i1⟩
  | 14 => ⟨S_, .i32⟩
  | 15 => ⟨S_, .i32⟩
  | 16 => ⟨S_, .i32⟩
  | 17 => ⟨S_, .i32⟩
  | 18 => ⟨S_, .i1⟩
  | 19 => ⟨S_, .i32⟩
  | 20 => ⟨S_, .i32⟩
  | 21 => ⟨S_, .i32⟩
  | 22 => ⟨S1x1, .f32⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | 51 => ⟨S_, .f32⟩
  | 52 => ⟨S_, .f32⟩
  | 53 => ⟨S_, .f32⟩
  | 54 => ⟨S_, .f32⟩
  | 55 => ⟨S_, .f32⟩
  | 56 => ⟨S1x1, .f32⟩
  | 57 => ⟨S_, .i32⟩
  | 58 => ⟨S_, .i1⟩
  | 59 => ⟨S_, .i32⟩
  | 60 => ⟨S_, .i32⟩
  | 61 => ⟨S_, .i32⟩
  | 62 => ⟨S_, .i32⟩
  | 63 => ⟨S_, .i1⟩
  | 64 => ⟨S_, .i32⟩
  | 65 => ⟨S_, .i32⟩
  | 66 => ⟨S_, .i32⟩
  | 67 => ⟨S513x513, .f32⟩
  | 68 => ⟨S_, .i32⟩
  | 69 => ⟨S_, .i32⟩
  | 70 => ⟨S1x1, .f32⟩
  | 71 => ⟨S_, .f32⟩
  | 72 => ⟨S_, .f32⟩
  | 73 => ⟨S_, .f32⟩
  | _ => ⟨S512x1024, .f32⟩

abbrev hbmTy (i : Nat) : BufTy := match i / 128 with
  | 0 => hbmTy0_0 i
  | 1 => hbmTy0_1 i
  | _ => ⟨S512x1024, .f32⟩

abbrev bufTy : (tb : Table) → Fin (tcTables nBuf tb) → BufTy
  | .hbm, ⟨i, _⟩ => hbmTy i
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_c : Ref sig .tc := ⟨.hbm, 12, rfl⟩
abbrev main_c_0 : Ref sig .tc := ⟨.hbm, 13, rfl⟩
abbrev main_v9_0 : Ref sig .tc := ⟨.hbm, 14, rfl⟩
abbrev main_v9_1 : Ref sig .tc := ⟨.hbm, 15, rfl⟩
abbrev main_v9_2 : Ref sig .tc := ⟨.hbm, 16, rfl⟩
abbrev main_v9_3 : Ref sig .tc := ⟨.hbm, 17, rfl⟩
abbrev main_while0c_c_5 : Ref sig .tc := ⟨.hbm, 18, rfl⟩
abbrev main_while0c_v13 : Ref sig .tc := ⟨.hbm, 19, rfl⟩
abbrev main_while0b_c_5 : Ref sig .tc := ⟨.hbm, 20, rfl⟩
abbrev main_while0b_v13 : Ref sig .tc := ⟨.hbm, 21, rfl⟩
abbrev main_while0b_cst_6 : Ref sig .tc := ⟨.hbm, 22, rfl⟩
abbrev main_while0b_cst_7 : Ref sig .tc := ⟨.hbm, 23, rfl⟩
abbrev main_while0b_v14 : Ref sig .tc := ⟨.hbm, 24, rfl⟩
abbrev main_while0b_c_8 : Ref sig .tc := ⟨.hbm, 25, rfl⟩
abbrev main_while0b_v15 : Ref sig .tc := ⟨.hbm, 26, rfl⟩
abbrev main_while0b_c_9 : Ref sig .tc := ⟨.hbm, 27, rfl⟩
abbrev main_while0b_v16 : Ref sig .tc := ⟨.hbm, 28, rfl⟩
abbrev main_while0b_c_10 : Ref sig .tc := ⟨.hbm, 29, rfl⟩
abbrev main_while0b_v17 : Ref sig .tc := ⟨.hbm, 30, rfl⟩
abbrev main_while0b_c_11 : Ref sig .tc := ⟨.hbm, 31, rfl⟩
abbrev main_while0b_v18 : Ref sig .tc := ⟨.hbm, 32, rfl⟩
abbrev main_while0b_c_12 : Ref sig .tc := ⟨.hbm, 33, rfl⟩
abbrev main_while0b_v19 : Ref sig .tc := ⟨.hbm, 34, rfl⟩
abbrev main_while0b_c_13 : Ref sig .tc := ⟨.hbm, 35, rfl⟩
abbrev main_while0b_v20 : Ref sig .tc := ⟨.hbm, 36, rfl⟩
abbrev main_while0b_v21 : Ref sig .tc := ⟨.hbm, 37, rfl⟩
abbrev main_while0b_c_14 : Ref sig .tc := ⟨.hbm, 38, rfl⟩
abbrev main_while0b_v22 : Ref sig .tc := ⟨.hbm, 39, rfl⟩
abbrev main_while0b_c_15 : Ref sig .tc := ⟨.hbm, 40, rfl⟩
abbrev main_while0b_v23 : Ref sig .tc := ⟨.hbm, 41, rfl⟩
abbrev main_while0b_c_16 : Ref sig .tc := ⟨.hbm, 42, rfl⟩
abbrev main_while0b_v24 : Ref sig .tc := ⟨.hbm, 43, rfl⟩
abbrev main_while0b_c_17 : Ref sig .tc := ⟨.hbm, 44, rfl⟩
abbrev main_while0b_v25 : Ref sig .tc := ⟨.hbm, 45, rfl⟩
abbrev main_while0b_c_18 : Ref sig .tc := ⟨.hbm, 46, rfl⟩
abbrev main_while0b_v26 : Ref sig .tc := ⟨.hbm, 47, rfl⟩
abbrev main_while0b_c_19 : Ref sig .tc := ⟨.hbm, 48, rfl⟩
abbrev main_while0b_v27 : Ref sig .tc := ⟨.hbm, 49, rfl⟩
abbrev main_while0b_c_20 : Ref sig .tc := ⟨.hbm, 50, rfl⟩
abbrev main_while0b_v28 : Ref sig .tc := ⟨.hbm, 51, rfl⟩
abbrev main_while0b_c_21 : Ref sig .tc := ⟨.hbm, 52, rfl⟩
abbrev main_while0b_v29 : Ref sig .tc := ⟨.hbm, 53, rfl⟩
abbrev main_while0b_v30 : Ref sig .tc := ⟨.hbm, 54, rfl⟩
abbrev main_while0b_c_22 : Ref sig .tc := ⟨.hbm, 55, rfl⟩
abbrev main_while0b_v31 : Ref sig .tc := ⟨.hbm, 56, rfl⟩
abbrev main_while0b_c_23 : Ref sig .tc := ⟨.hbm, 57, rfl⟩
abbrev main_while0b_v32 : Ref sig .tc := ⟨.hbm, 58, rfl⟩
abbrev main_while0b_v33 : Ref sig .tc := ⟨.hbm, 59, rfl⟩
abbrev main_while0b_v34 : Ref sig .tc := ⟨.hbm, 60, rfl⟩
abbrev main_while0b_v35 : Ref sig .tc := ⟨.hbm, 61, rfl⟩
abbrev main_while0b_c_24 : Ref sig .tc := ⟨.hbm, 62, rfl⟩
abbrev main_while0b_v36 : Ref sig .tc := ⟨.hbm, 63, rfl⟩
abbrev main_while0b_c_25 : Ref sig .tc := ⟨.hbm, 64, rfl⟩
abbrev main_while0b_v37 : Ref sig .tc := ⟨.hbm, 65, rfl⟩
abbrev main_while0b_c_26 : Ref sig .tc := ⟨.hbm, 66, rfl⟩
abbrev main_while0b_v38 : Ref sig .tc := ⟨.hbm, 67, rfl⟩
abbrev main_while0b_c_27 : Ref sig .tc := ⟨.hbm, 68, rfl⟩
abbrev main_while0b_v39 : Ref sig .tc := ⟨.hbm, 69, rfl⟩
abbrev main_while0b_v40 : Ref sig .tc := ⟨.hbm, 70, rfl⟩
abbrev main_while0b_c_28 : Ref sig .tc := ⟨.hbm, 71, rfl⟩
abbrev main_while0b_v41 : Ref sig .tc := ⟨.hbm, 72, rfl⟩
abbrev main_while0b_c_29 : Ref sig .tc := ⟨.hbm, 73, rfl⟩
abbrev main_while0b_v42 : Ref sig .tc := ⟨.hbm, 74, rfl⟩
abbrev main_while0b_v43 : Ref sig .tc := ⟨.hbm, 75, rfl⟩
abbrev main_while0b_v44 : Ref sig .tc := ⟨.hbm, 76, rfl⟩
abbrev main_while0b_v45 : Ref sig .tc := ⟨.hbm, 77, rfl⟩
abbrev main_while0b_v46 : Ref sig .tc := ⟨.hbm, 78, rfl⟩
abbrev main_while0b_c_30 : Ref sig .tc := ⟨.hbm, 79, rfl⟩
abbrev main_while0b_v47 : Ref sig .tc := ⟨.hbm, 80, rfl⟩
abbrev main_while0b_c_31 : Ref sig .tc := ⟨.hbm, 81, rfl⟩
abbrev main_while0b_v48 : Ref sig .tc := ⟨.hbm, 82, rfl⟩
abbrev main_while0b_c_32 : Ref sig .tc := ⟨.hbm, 83, rfl⟩
abbrev main_while0b_v49 : Ref sig .tc := ⟨.hbm, 84, rfl⟩
abbrev main_while0b_v50 : Ref sig .tc := ⟨.hbm, 85, rfl⟩
abbrev main_while0b_c_33 : Ref sig .tc := ⟨.hbm, 86, rfl⟩
abbrev main_while0b_v51 : Ref sig .tc := ⟨.hbm, 87, rfl⟩
abbrev main_while0b_c_34 : Ref sig .tc := ⟨.hbm, 88, rfl⟩
abbrev main_while0b_v52 : Ref sig .tc := ⟨.hbm, 89, rfl⟩
abbrev main_while0b_v53 : Ref sig .tc := ⟨.hbm, 90, rfl⟩
abbrev main_while0b_v54 : Ref sig .tc := ⟨.hbm, 91, rfl⟩
abbrev main_while0b_v55 : Ref sig .tc := ⟨.hbm, 92, rfl⟩
abbrev main_while0b_cst_35 : Ref sig .tc := ⟨.hbm, 93, rfl⟩
abbrev main_while0b_v56 : Ref sig .tc := ⟨.hbm, 94, rfl⟩
abbrev main_while0b_c_36 : Ref sig .tc := ⟨.hbm, 95, rfl⟩
abbrev main_while0b_v57 : Ref sig .tc := ⟨.hbm, 96, rfl⟩
abbrev main_while0b_c_37 : Ref sig .tc := ⟨.hbm, 97, rfl⟩
abbrev main_while0b_v58 : Ref sig .tc := ⟨.hbm, 98, rfl⟩
abbrev main_while0b_c_38 : Ref sig .tc := ⟨.hbm, 99, rfl⟩
abbrev main_while0b_v59 : Ref sig .tc := ⟨.hbm, 100, rfl⟩
abbrev main_while0b_v60 : Ref sig .tc := ⟨.hbm, 101, rfl⟩
abbrev main_while0b_c_39 : Ref sig .tc := ⟨.hbm, 102, rfl⟩
abbrev main_while0b_v61 : Ref sig .tc := ⟨.hbm, 103, rfl⟩
abbrev main_while0b_c_40 : Ref sig .tc := ⟨.hbm, 104, rfl⟩
abbrev main_while0b_v62 : Ref sig .tc := ⟨.hbm, 105, rfl⟩
abbrev main_while0b_v63 : Ref sig .tc := ⟨.hbm, 106, rfl⟩
abbrev main_while0b_v64 : Ref sig .tc := ⟨.hbm, 107, rfl⟩
abbrev main_while0b_v65 : Ref sig .tc := ⟨.hbm, 108, rfl⟩
abbrev main_while0b_cst_41 : Ref sig .tc := ⟨.hbm, 109, rfl⟩
abbrev main_while0b_v66 : Ref sig .tc := ⟨.hbm, 110, rfl⟩
abbrev main_while0b_c_42 : Ref sig .tc := ⟨.hbm, 111, rfl⟩
abbrev main_while0b_v67 : Ref sig .tc := ⟨.hbm, 112, rfl⟩
abbrev main_while0b_c_43 : Ref sig .tc := ⟨.hbm, 113, rfl⟩
abbrev main_while0b_v68 : Ref sig .tc := ⟨.hbm, 114, rfl⟩
abbrev main_while0b_v69 : Ref sig .tc := ⟨.hbm, 115, rfl⟩
abbrev main_while0b_c_44 : Ref sig .tc := ⟨.hbm, 116, rfl⟩
abbrev main_while0b_v70 : Ref sig .tc := ⟨.hbm, 117, rfl⟩
abbrev main_while0b_c_45 : Ref sig .tc := ⟨.hbm, 118, rfl⟩
abbrev main_while0b_v71 : Ref sig .tc := ⟨.hbm, 119, rfl⟩
abbrev main_while0b_v72 : Ref sig .tc := ⟨.hbm, 120, rfl⟩
abbrev main_while0b_v73 : Ref sig .tc := ⟨.hbm, 121, rfl⟩
abbrev main_while0b_v74 : Ref sig .tc := ⟨.hbm, 122, rfl⟩
abbrev main_while0b_c_46 : Ref sig .tc := ⟨.hbm, 123, rfl⟩
abbrev main_while0b_v75 : Ref sig .tc := ⟨.hbm, 124, rfl⟩
abbrev main_while0b_c_47 : Ref sig .tc := ⟨.hbm, 125, rfl⟩
abbrev main_while0b_v76 : Ref sig .tc := ⟨.hbm, 126, rfl⟩
abbrev main_while0b_c_48 : Ref sig .tc := ⟨.hbm, 127, rfl⟩
abbrev main_while0b_v77 : Ref sig .tc := ⟨.hbm, 128, rfl⟩
abbrev main_while0b_v78 : Ref sig .tc := ⟨.hbm, 129, rfl⟩
abbrev main_while0b_c_49 : Ref sig .tc := ⟨.hbm, 130, rfl⟩
abbrev main_while0b_v79 : Ref sig .tc := ⟨.hbm, 131, rfl⟩
abbrev main_while0b_c_50 : Ref sig .tc := ⟨.hbm, 132, rfl⟩
abbrev main_while0b_v80 : Ref sig .tc := ⟨.hbm, 133, rfl⟩
abbrev main_while0b_v81 : Ref sig .tc := ⟨.hbm, 134, rfl⟩
abbrev main_while0b_v82 : Ref sig .tc := ⟨.hbm, 135, rfl⟩
abbrev main_while0b_v83 : Ref sig .tc := ⟨.hbm, 136, rfl⟩
abbrev main_while0b_v84 : Ref sig .tc := ⟨.hbm, 137, rfl⟩
abbrev main_while0b_c_51 : Ref sig .tc := ⟨.hbm, 138, rfl⟩
abbrev main_while0b_v85 : Ref sig .tc := ⟨.hbm, 139, rfl⟩
abbrev main_while0b_c_52 : Ref sig .tc := ⟨.hbm, 140, rfl⟩
abbrev main_while0b_v86 : Ref sig .tc := ⟨.hbm, 141, rfl⟩
abbrev main_while0b_c_53 : Ref sig .tc := ⟨.hbm, 142, rfl⟩
abbrev main_while0b_v87 : Ref sig .tc := ⟨.hbm, 143, rfl⟩
abbrev main_while0b_v88 : Ref sig .tc := ⟨.hbm, 144, rfl⟩
abbrev main_while0b_c_54 : Ref sig .tc := ⟨.hbm, 145, rfl⟩
abbrev main_while0b_v89 : Ref sig .tc := ⟨.hbm, 146, rfl⟩
abbrev main_while0b_c_55 : Ref sig .tc := ⟨.hbm, 147, rfl⟩
abbrev main_while0b_v90 : Ref sig .tc := ⟨.hbm, 148, rfl⟩
abbrev main_while0b_v91 : Ref sig .tc := ⟨.hbm, 149, rfl⟩
abbrev main_while0b_v92 : Ref sig .tc := ⟨.hbm, 150, rfl⟩
abbrev main_while0b_v93 : Ref sig .tc := ⟨.hbm, 151, rfl⟩
abbrev main_while0b_v94 : Ref sig .tc := ⟨.hbm, 152, rfl⟩
abbrev main_while0b_cst_56 : Ref sig .tc := ⟨.hbm, 153, rfl⟩
abbrev main_while0b_v95 : Ref sig .tc := ⟨.hbm, 154, rfl⟩
abbrev main_while0b_v96 : Ref sig .tc := ⟨.hbm, 155, rfl⟩
abbrev main_while0b_v97 : Ref sig .tc := ⟨.hbm, 156, rfl⟩
abbrev main_while0b_v98 : Ref sig .tc := ⟨.hbm, 157, rfl⟩
abbrev main_while0b_v99 : Ref sig .tc := ⟨.hbm, 158, rfl⟩
abbrev main_while0b_v100 : Ref sig .tc := ⟨.hbm, 159, rfl⟩
abbrev main_while0b_v101 : Ref sig .tc := ⟨.hbm, 160, rfl⟩
abbrev main_while0b_v102 : Ref sig .tc := ⟨.hbm, 161, rfl⟩
abbrev main_while0b_v103 : Ref sig .tc := ⟨.hbm, 162, rfl⟩
abbrev main_while0b_v104 : Ref sig .tc := ⟨.hbm, 163, rfl⟩
abbrev main_while0b_v105 : Ref sig .tc := ⟨.hbm, 164, rfl⟩
abbrev main_while0b_v106 : Ref sig .tc := ⟨.hbm, 165, rfl⟩
abbrev main_while0b_v107 : Ref sig .tc := ⟨.hbm, 166, rfl⟩
abbrev main_while0b_v108 : Ref sig .tc := ⟨.hbm, 167, rfl⟩
abbrev main_while0b_v109 : Ref sig .tc := ⟨.hbm, 168, rfl⟩
abbrev main_while0b_v110 : Ref sig .tc := ⟨.hbm, 169, rfl⟩
abbrev main_while0b_v111 : Ref sig .tc := ⟨.hbm, 170, rfl⟩
abbrev main_while0b_v112 : Ref sig .tc := ⟨.hbm, 171, rfl⟩
abbrev main_while0b_v113 : Ref sig .tc := ⟨.hbm, 172, rfl⟩
abbrev main_while0b_v114 : Ref sig .tc := ⟨.hbm, 173, rfl⟩
abbrev main_while0b_v115 : Ref sig .tc := ⟨.hbm, 174, rfl⟩
abbrev main_while0b_v116 : Ref sig .tc := ⟨.hbm, 175, rfl⟩
abbrev main_while0b_v117 : Ref sig .tc := ⟨.hbm, 176, rfl⟩
abbrev main_while0b_cst_57 : Ref sig .tc := ⟨.hbm, 177, rfl⟩
abbrev main_while0b_v118 : Ref sig .tc := ⟨.hbm, 178, rfl⟩
abbrev main_while0b_v119 : Ref sig .tc := ⟨.hbm, 179, rfl⟩
abbrev main_while0b_v120 : Ref sig .tc := ⟨.hbm, 180, rfl⟩
abbrev main_while0b_v121 : Ref sig .tc := ⟨.hbm, 181, rfl⟩
abbrev main_while0b_v122 : Ref sig .tc := ⟨.hbm, 182, rfl⟩
abbrev main_while0b_v123 : Ref sig .tc := ⟨.hbm, 183, rfl⟩
abbrev main_while0b_v124 : Ref sig .tc := ⟨.hbm, 184, rfl⟩
abbrev main_while0b_c_58 : Ref sig .tc := ⟨.hbm, 185, rfl⟩
abbrev main_while0b_v125 : Ref sig .tc := ⟨.hbm, 186, rfl⟩
abbrev main_while0b_c_59 : Ref sig .tc := ⟨.hbm, 187, rfl⟩
abbrev main_while0b_v126 : Ref sig .tc := ⟨.hbm, 188, rfl⟩
abbrev main_while0b_v127 : Ref sig .tc := ⟨.hbm, 189, rfl⟩
abbrev main_while0b_c_60 : Ref sig .tc := ⟨.hbm, 190, rfl⟩
abbrev main_while0b_v128 : Ref sig .tc := ⟨.hbm, 191, rfl⟩
abbrev main_while0b_c_61 : Ref sig .tc := ⟨.hbm, 192, rfl⟩
abbrev main_while0b_v129 : Ref sig .tc := ⟨.hbm, 193, rfl⟩
abbrev main_while0b_v130 : Ref sig .tc := ⟨.hbm, 194, rfl⟩
abbrev main_while0b_v131 : Ref sig .tc := ⟨.hbm, 195, rfl⟩
abbrev main_while0b_c_62 : Ref sig .tc := ⟨.hbm, 196, rfl⟩
abbrev main_while0b_v132 : Ref sig .tc := ⟨.hbm, 197, rfl⟩
abbrev main_v10 : Ref sig .tc := ⟨.hbm, 198, rfl⟩
abbrev main_v11 : Ref sig .tc := ⟨.hbm, 199, rfl⟩
abbrev main_cst_1 : Ref sig .tc := ⟨.hbm, 200, rfl⟩
abbrev main_v12 : Ref sig .tc := ⟨.hbm, 201, rfl⟩

abbrev nD : Nat := 1
abbrev τ : Topo := Topo.v7x

variable {F : FTy → Type} [FloatOps F]

abbrev main_while0_count : Scf.Loop 32 := ⟨0#32, 262144#32, 1#32⟩
-- ==== Proof.KernelFrame.lean ====
/- The frame of the printed kernel: it runs, its arguments end unchanged and every semaphore counter ends at zero. Nothing is
   said of what it computes. -/
module

public import proofs.«01_k».proof.Proof.Gen.Kernel.Frame.Runs
public import Idealize.ShloMosaic.Lib.Claim

@[expose] public section

-- membership in a rectangle recurses once per coordinate of its long axes
set_option maxRecDepth 16384

noncomputable section

namespace Cert.KernelFrame

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body runs from whole buffers at any contents: the two inputs keep theirs, the output and the scratch end at some. -/
theorem body_run (c : Dev nD) (arg0 : Memref sig .tc .vmem S512x1024 .f32) (harg0 : arg0.IsWhole) (arg1 : Memref sig .tc .vmem S512x1024 .f32) (harg1 : arg1.IsWhole) (arg2 : Memref sig .tc .vmem S1x1 .f32) (harg2 : arg2.IsWhole) (arg3 : Memref sig .tc .vmem S512x8x128 .f32) (harg3 : arg3.IsWhole) (arg4 : Memref sig .tc .vmem S512x8x128 .f32) (harg4 : arg4.IsWhole) (arg5 : Memref sig .tc .vmem S4x512x128 .f32) (harg5 : arg5.IsWhole)
    (x0 : Vec F S512x1024 .f32) (x1 : Vec F S512x1024 .f32) :
      ∀ (E : Set ℕ) (K : PUnit → sProp 𝕄),
        iprop(owns (c : Thread nD τ) arg0 fullShare x0 ∗ owns (c : Thread nD τ) arg1 fullShare x1 ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d)
            ∗ (iprop(owns (c : Thread nD τ) arg0 fullShare x0 ∗ owns (c : Thread nD τ) arg1 fullShare x1 ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d)) -∗ K ⟨⟩))
          ⊢ wp frame (wpE (defs₀ (F := F)) Variants.none c none) E (cc0__soft_red_kernel arg0 harg0 arg1 harg1 arg2 harg2 arg3 harg3 arg4 harg4 arg5 harg5) K := by
    intro E K
    simp only [cc0__soft_red_kernel_eq_skeleton]; unfold cc0__soft_red_kernel_skel
    simp only [k0_part12_eq_skeleton, k0_part13_eq_skeleton, k0_part14_eq_skeleton, k0_part15_eq_skeleton, k0_part16_eq_skeleton, k0_part17_eq_skeleton, k0_part18_eq_skeleton, k0_part19_eq_skeleton]
    unfold owns
    iintro ⟨⟨%f0, %hf0, H0⟩, ⟨%f1, %hf1, H1⟩, ⟨%d2, %f2, -, H2⟩, ⟨%ds0, %fs0, -, HS0⟩, ⟨%ds1, %fs1, -, HS1⟩, ⟨%ds2, %fs2, -, HS2⟩, Hk⟩
    obtain rfl := harg0.eq_unread hf0; obtain rfl := harg1.eq_unread hf1
    sl_exec
    sl_step
    iapply Hk
    isplitl [H0]
    · iexists _; isplitr; · ipureintro; exact harg0.read_unread _
      iexact H0
    isplitl [H1]
    · iexists _; isplitr; · ipureintro; exact harg1.read_unread _
      iexact H1
    isplitl [H2]
    · iexists _, _; isplitr; swap; · iexact H2
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

/-- The buffer the line after the call writes. -/
def T0 : Finset (Ref sig .tc) := {main_v0}
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-- A run that keeps the input arrays leaves the arguments unchanged. -/
theorem args_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(Pipeline.RDat.FramePostR.arr_in h c 0 rfl).trans ((hA c 0).trans (V_main_arg0 m c)),
      (Pipeline.RDat.FramePostR.arr_in h c 1 rfl).trans ((hA c 1).trans (V_main_arg1 m c))⟩) h

/-! ## The pipeline's proof data -/

/-- The output windows this certificate FORGETS (2): nothing reads what the kernel leaves in them, so nothing
    of it is named (Lib/Pipeline/Dat.lean `Dat.toRForget`). -/
def forgets0 : Fin 3 → Bool := fun w => w.val == 2

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, h⟩ => Pipeline.Dat.unnamed (cfg := cfg0) ⟨2, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ (∃ d, owns (c : Thread nD τ) (ms0_2 t) fullShare d))

/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1]
  rw [show (dats m 0 c).Φ t.castSucc = Pipeline.ΦA spec0 c from rfl, PhiA0_eq]
  iintro ⟨⟨⟨HS0, HS1, HS2⟩, Hg⟩, Ho, ⟨%d0, H0⟩, ⟨%d1, H1⟩, ⟨%d2, H2⟩⟩
  iapply ((body_run c _ _ _ _ _ _ _ _ _ _ _ _ (iblk m c 0 t) (iblk m c 1 t)) Set.univ _)
  isplitl [H0]; · iexact H0
  isplitl [H1]; · iexact H1
  isplitl [H2]; · iexists _; iexact H2
  isplitl [HS0]; · iexact HS0
  isplitl [HS1]; · iexact HS1
  isplitl [HS2]; · iexact HS2
  iintro ⟨H0, H1, H2, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  iexact H2

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_around_T_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (window 2) (Lib/Pipeline/Frame.lean `RDat.FramePostR` over the proof data with those windows
    forgotten, Dat.lean `Dat.toRForget`), and every other unscoped buffer outside `T0` at its region-entry contents. -/
theorem run_main : θ_run defs (onTc (τ := τ) (main (F := F))) (s₀ m ρ) (Pipeline.RDat.FramePostR (cfgs 0) (fun c => (dats m 0 c).toRForget forgets0) T0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  args_of m ρ (fun c => (dats m 0 c).toRForget forgets0) (A_eq m) (run_main m ρ)

/-- THE FRAME: the argument arrays end unchanged and every semaphore counter ends at zero, which is `Cert.quiescent_Kernel`'s statement. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.KernelFrame

end
-- ==== Proof.KernelRun.lean ====
/- The ideal kernel's body, run: what it leaves in its output, as an expression of its arguments over whatever its scratch
   buffers held, and the triple that says so. -/
module

public import proofs.«01_k».proof.Proof.Gen.KernelIdeal.Frame.Runs
public import Idealize.ShloMosaic.Lib.VecWindow

@[expose] public section

-- membership in a rectangle recurses once per coordinate of its long axes
set_option maxRecDepth 16384

noncomputable section

namespace Cert.KernelRun

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## What the body computes -/

/-- The lane numbers the skews test. -/
def lanes : IVec S512x128 32 := iota Kind.tc S512x128 32 [1] iota_S512x128_d1_w32
/-- The sublane and lane numbers of a packed row. -/
def subs8 : IVec S8x128 32 := iota Kind.tc S8x128 32 [0] iota_S8x128_d0_w32
def lanes8 : IVec S8x128 32 := iota Kind.tc S8x128 32 [1] iota_S8x128_d1_w32

/-- The second argument's rows, all of them, -/
def allB (arg1 : Memref sig .tc .vmem S512x1024 .f32) (harg1 : arg1.IsWhole) (x1 : Vec F S512x1024 .f32) : Vec F S512x1024 .f32 :=
  View.readAt (Elt F) arg1.view (Rect.unit (s := S512x1024) ![0, 0] S512x1024.size inb_S512x1024_S512x1024_0_0).toLoadRect (harg1.unread x1)
/-- and the first argument's, a chunk of 128 at a time. -/
def chunkA0 (arg0 : Memref sig .tc .vmem S512x1024 .f32) (harg0 : arg0.IsWhole) (x0 : Vec F S512x1024 .f32) : Vec F S128x1024 .f32 :=
  View.readAt (Elt F) arg0.view (Rect.unit (s := S512x1024) ![0, 0] S128x1024.size inb_S512x1024_S128x1024_0_0).toLoadRect (harg0.unread x0)
def chunkA1 (arg0 : Memref sig .tc .vmem S512x1024 .f32) (harg0 : arg0.IsWhole) (x0 : Vec F S512x1024 .f32) : Vec F S128x1024 .f32 :=
  View.readAt (Elt F) arg0.view (Rect.unit (s := S512x1024) ![128, 0] S128x1024.size inb_S512x1024_S128x1024_128_0).toLoadRect (harg0.unread x0)
def chunkA2 (arg0 : Memref sig .tc .vmem S512x1024 .f32) (harg0 : arg0.IsWhole) (x0 : Vec F S512x1024 .f32) : Vec F S128x1024 .f32 :=
  View.readAt (Elt F) arg0.view (Rect.unit (s := S512x1024) ![256, 0] S128x1024.size inb_S512x1024_S128x1024_256_0).toLoadRect (harg0.unread x0)
def chunkA3 (arg0 : Memref sig .tc .vmem S512x1024 .f32) (harg0 : arg0.IsWhole) (x0 : Vec F S512x1024 .f32) : Vec F S128x1024 .f32 :=
  View.readAt (Elt F) arg0.view (Rect.unit (s := S512x1024) ![384, 0] S128x1024.size inb_S512x1024_S128x1024_384_0).toLoadRect (harg0.unread x0)

/-- The four chunks of costs, skewed, from the rows they are products of. -/
def skew0 (b : Vec F S512x1024 .f32) (a : Vec F S128x1024 .f32) : FVec F S512x128 .f32 :=
  k0_pay50 lanes (k0_pay46 b a) (k0_pay47 b a) k0_pay48 k0_pay49
def skew1 (b : Vec F S512x1024 .f32) (a : Vec F S128x1024 .f32) : FVec F S512x128 .f32 :=
  k0_pay53 lanes (k0_pay51 lanes b a) (k0_pay52 lanes b a) 4#32
def skew2 (b : Vec F S512x1024 .f32) (a : Vec F S128x1024 .f32) : FVec F S512x128 .f32 :=
  k0_pay56 lanes (k0_pay55 lanes (k0_pay54 b a))
def skew3 (b : Vec F S512x1024 .f32) (a : Vec F S128x1024 .f32) : FVec F S512x128 .f32 :=
  k0_pay60 lanes (k0_pay57 lanes b a) (k0_pay58 lanes b a) (k0_pay59 lanes)
/-- The last chunk again, as the swap costs read it. -/
def skew3r (b : Vec F S512x1024 .f32) (a : Vec F S128x1024 .f32) : FVec F S512x128 .f32 :=
  k0_pay64 lanes (k0_pay57 lanes b a) (k0_pay58 lanes b a) (k0_pay59 lanes)

/-- The four chunks of swap costs. -/
def swap0 (g0 : FVec F S512x128 .f32) : FVec F S512x128 .f32 := k0_pay66 lanes g0
def swap1 (g0 g1 : FVec F S512x128 .f32) : FVec F S512x128 .f32 := k0_pay67 lanes g0 g1
def swap2p (g1 g2 : FVec F S512x128 .f32) : FVec F S512x128 .f32 := k0_pay68 lanes g1 g2
def swap2 (g1 g2 : FVec F S512x128 .f32) : FVec F S512x128 .f32 := k0_pay69 (swap2p g1 g2)
def swap3 (g2 g3 g3r : FVec F S512x128 .f32) : FVec F S512x128 .f32 := k0_pay70 g3 (k0_pay63 g2) g3r (k0_pay65 lanes)

/-- The staging buffer after the four chunks of costs are stored, -/
def costPieces (g0 g1 g2 g3 : FVec F S512x128 .f32) : List (View.Piece (Elt F) S4x512x128 .f32) :=
  [⟨Rect.unit ![3, 0, 0] S1x512x128.size inb_S4x512x128_S1x512x128_3_0_0, k0_pay75 g3⟩,
    ⟨Rect.unit ![2, 0, 0] S1x512x128.size inb_S4x512x128_S1x512x128_2_0_0, k0_pay74 g2⟩,
    ⟨Rect.unit ![1, 0, 0] S1x512x128.size inb_S4x512x128_S1x512x128_1_0_0, k0_pay73 g1⟩,
    ⟨Rect.unit ![0, 0, 0] S1x512x128.size inb_S4x512x128_S1x512x128_0_0_0, k0_pay72 g0⟩]
/-- and after the four chunks of swap costs are stored over them. -/
def swapPieces (g0 g1 g2 g3 g3r : FVec F S512x128 .f32) : List (View.Piece (Elt F) S4x512x128 .f32) :=
  (⟨Rect.unit ![3, 0, 0] S1x512x128.size inb_S4x512x128_S1x512x128_3_0_0, k0_pay80 (swap3 g2 g3 g3r)⟩ : View.Piece (Elt F) S4x512x128 .f32) ::
    ⟨Rect.unit ![2, 0, 0] S1x512x128.size inb_S4x512x128_S1x512x128_2_0_0, k0_pay79 (swap2 g1 g2)⟩ ::
    ⟨Rect.unit ![1, 0, 0] S1x512x128.size inb_S4x512x128_S1x512x128_1_0_0, k0_pay78 (swap1 g0 g1)⟩ ::
    ⟨Rect.unit ![0, 0, 0] S1x512x128.size inb_S4x512x128_S1x512x128_0_0_0, k0_pay77 (swap0 g0)⟩ ::
    costPieces g0 g1 g2 g3

section Body

variable (c : Dev nD) (arg0 : Memref sig .tc .vmem S512x1024 .f32) (harg0 : arg0.IsWhole) (arg1 : Memref sig .tc .vmem S512x1024 .f32) (harg1 : arg1.IsWhole) (arg2 : Memref sig .tc .vmem S1x1 .f32) (harg2 : arg2.IsWhole) (arg3 : Memref sig .tc .vmem S512x8x128 .f32) (harg3 : arg3.IsWhole) (arg4 : Memref sig .tc .vmem S512x8x128 .f32) (harg4 : arg4.IsWhole) (arg5 : Memref sig .tc .vmem S4x512x128 .f32) (harg5 : arg5.IsWhole)

/-- The costs packed a row to a step, over whatever the buffer held, -/
def packedCosts (g0 g1 g2 g3 g3r : FVec F S512x128 .f32) (fs0 : BufTy.Contents (Elt F) arg3.view.ty) : BufTy.Contents (Elt F) arg3.view.ty :=
  arg3.view.writes (Elt F) fs0 (pb_k0_t1 Variants.none c none arg0 harg0 arg1 harg1 arg2 harg2 arg3 harg3 arg4 harg4 arg5 harg5 g0 g1 g2 g3 (k0_pay63 g2) g3r (k0_pay65 lanes) (swap0 g0)
    (swap2p g1 g2) subs8 (arg5.view.writes (Elt F) arg5.view.junk (costPieces g0 g1 g2 g3))
    (Scf.trips k0_t1_loop.lb k0_t1_loop.ub k0_t1_loop.st))
/-- and the swap costs likewise. -/
def packedSwaps (g0 g1 g2 g3 g3r : FVec F S512x128 .f32) (fs1 : BufTy.Contents (Elt F) arg4.view.ty) : BufTy.Contents (Elt F) arg4.view.ty :=
  arg4.view.writes (Elt F) fs1 (pb_k0_t2 Variants.none c none arg0 harg0 arg1 harg1 arg2 harg2 arg3 harg3 arg4 harg4 arg5 harg5 (swap1 g0 g1) (swap2 g1 g2) (swap3 g2 g3 g3r) subs8 lanes8 k0_pay71
    (arg5.view.writes (Elt F) arg5.view.junk (swapPieces g0 g1 g2 g3 g3r)) (Scf.trips k0_t2_loop.lb k0_t2_loop.ub k0_t2_loop.st))

/-- The packed costs' first row. -/
def firstRow (X3 : BufTy.Contents (Elt F) arg3.view.ty) : Vec F S1x8x128 .f32 :=
  View.readAt (Elt F) arg3.view (Rect.unit (s := S512x8x128) ![0, 0, 0] S1x8x128.size inb_S512x8x128_S1x8x128_0_0_0).toLoadRect X3

/-- The last anti-diagonal, after the loop over them. -/
def lastDiag (w1 w2 w3 : FVec F S512x128 .f32) (X3 : BufTy.Contents (Elt F) arg3.view.ty) (X4 : BufTy.Contents (Elt F) arg4.view.ty) :
    FVec F S8x128 .f32 :=
  (st_k0_t3 Variants.none c none arg0 harg0 arg1 harg1 arg2 harg2 arg3 harg3 arg4 harg4 arg5 harg5 w1 w2 w3 subs8 lanes8 k0_pay71 (Named.named κ "big" 1900671690#32) X3 X4
    (k0_pay84 k0_pay71 (firstRow arg3 X3), k0_pay86 k0_pay71 (firstRow arg3 X3), k0_pay83 (firstRow arg3 X3), k0_pay83 (firstRow arg3 X3))
    (Scf.trips k0_t3_loop.lb k0_t3_loop.ub k0_t3_loop.st)).1

/-- The output from the skewed costs. -/
def outOf (g0 g1 g2 g3 g3r : FVec F S512x128 .f32) (fs0 : BufTy.Contents (Elt F) arg3.view.ty) (fs1 : BufTy.Contents (Elt F) arg4.view.ty) :
    FVec F S1x1 .f32 :=
  k0_pay1 k0_pay71 (lastDiag c arg0 harg0 arg1 harg1 arg2 harg2 arg3 harg3 arg4 harg4 arg5 harg5 (swap1 g0 g1) (swap2 g1 g2) (swap3 g2 g3 g3r)
    (packedCosts c arg0 harg0 arg1 harg1 arg2 harg2 arg3 harg3 arg4 harg4 arg5 harg5 g0 g1 g2 g3 g3r fs0) (packedSwaps c arg0 harg0 arg1 harg1 arg2 harg2 arg3 harg3 arg4 harg4 arg5 harg5 g0 g1 g2 g3 g3r fs1))

/-- The output from the arguments, the scratch buffers holding anything to begin with. -/
def bodyOut (x0 x1 : Vec F S512x1024 .f32) (fs0 : BufTy.Contents (Elt F) arg3.view.ty) (fs1 : BufTy.Contents (Elt F) arg4.view.ty) :
    FVec F S1x1 .f32 :=
  outOf c arg0 harg0 arg1 harg1 arg2 harg2 arg3 harg3 arg4 harg4 arg5 harg5 (skew0 (allB arg1 harg1 x1) (chunkA0 arg0 harg0 x0)) (skew1 (allB arg1 harg1 x1) (chunkA1 arg0 harg0 x0))
    (skew2 (allB arg1 harg1 x1) (chunkA2 arg0 harg0 x0)) (skew3 (allB arg1 harg1 x1) (chunkA3 arg0 harg0 x0))
    (skew3r (allB arg1 harg1 x1) (chunkA3 arg0 harg0 x0)) fs0 fs1

end Body

set_option maxHeartbeats 1000000 in
/-- The body runs from whole buffers, the output's and the scratch at any contents; where its output is `v` whatever the
    scratch held, it ends with the output at `v`, the inputs as they were and the scratch at some contents. -/
theorem body_run (c : Dev nD) (arg0 : Memref sig .tc .vmem S512x1024 .f32) (harg0 : arg0.IsWhole) (arg1 : Memref sig .tc .vmem S512x1024 .f32) (harg1 : arg1.IsWhole) (arg2 : Memref sig .tc .vmem S1x1 .f32) (harg2 : arg2.IsWhole) (arg3 : Memref sig .tc .vmem S512x8x128 .f32) (harg3 : arg3.IsWhole) (arg4 : Memref sig .tc .vmem S512x8x128 .f32) (harg4 : arg4.IsWhole) (arg5 : Memref sig .tc .vmem S4x512x128 .f32) (harg5 : arg5.IsWhole)
    (x0 : Vec F S512x1024 .f32) (x1 : Vec F S512x1024 .f32)
    (v : Vec F S1x1 .f32) (hv : ∀ fs0 fs1, bodyOut c arg0 harg0 arg1 harg1 arg2 harg2 arg3 harg3 arg4 harg4 arg5 harg5 x0 x1 fs0 fs1 = v) :
      ∀ (E : Set ℕ) (K : PUnit → sProp 𝕄),
        iprop(owns (c : Thread nD τ) arg0 fullShare x0 ∗ owns (c : Thread nD τ) arg1 fullShare x1 ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d)
            ∗ (iprop(owns (c : Thread nD τ) arg0 fullShare x0 ∗ owns (c : Thread nD τ) arg1 fullShare x1 ∗ owns (c : Thread nD τ) arg2 fullShare v ∗ (∃ d, owns (c : Thread nD τ) arg3 fullShare d) ∗ (∃ d, owns (c : Thread nD τ) arg4 fullShare d) ∗ (∃ d, owns (c : Thread nD τ) arg5 fullShare d)) -∗ K ⟨⟩))
          ⊢ wp frame (wpE (defs₀ (F := F)) Variants.none c none) E (cc0__soft_red_kernel arg0 harg0 arg1 harg1 arg2 harg2 arg3 harg3 arg4 harg4 arg5 harg5) K := by
    intro E K
    simp only [cc0__soft_red_kernel_eq_skeleton]; unfold cc0__soft_red_kernel_skel
    simp only [k0_part12_eq_skeleton, k0_part13_eq_skeleton, k0_part14_eq_skeleton, k0_part15_eq_skeleton, k0_part16_eq_skeleton, k0_part17_eq_skeleton, k0_part18_eq_skeleton, k0_part19_eq_skeleton]
    unfold owns
    iintro ⟨⟨%f0, %hf0, H0⟩, ⟨%f1, %hf1, H1⟩, ⟨%d2, %f2, -, H2⟩, ⟨%ds0, %fs0, -, HS0⟩, ⟨%ds1, %fs1, -, HS1⟩, ⟨%ds2, %fs2, -, HS2⟩, Hk⟩
    obtain rfl := harg0.eq_unread hf0; obtain rfl := harg1.eq_unread hf1
    sl_exec
    sl_step
    iapply Hk
    isplitl [H0]
    · iexists _; isplitr; · ipureintro; exact harg0.read_unread _
      iexact H0
    isplitl [H1]
    · iexists _; isplitr; · ipureintro; exact harg1.read_unread _
      iexact H1
    isplitl [H2]
    · iexists _; isplitr; swap; · iexact H2
      ipureintro
      rw [← hv fs0 fs1]
      exact (View.read_writes_full arg2.view f2 inb_S1x1_S1x1_0_0 _ []).trans rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.KernelRun

end
-- ==== Proof.Cell.lean ====
/- One cell of the soft restricted edit distance on the extended reals: the kernel's spelling (base-two exponentials, the
   swap candidate masked by `⊤`) and the reference's (natural exponentials, the swap candidate selected), and their
   equality wherever the minimum of the candidates is not `⊤`. -/
module

public import Idealize.ShloMosaic.PureOps.Ideal

@[expose] public section

noncomputable section

namespace Cert.SoftRed

open Idealize.ShloMosaic

/-- The kernel's scale of an exponent: `1 / (γ · ln 2)` at `γ = 1/100`. -/
def kScale : EReal := ((100 * (Real.log 2)⁻¹ : ℝ) : EReal)
/-- The kernel's `γ · ln 2`. -/
def kAlpha : EReal := (((1 / 100) * (Real.log 2) : ℝ) : EReal)
/-- The kernel's `1 / ln 2`, which takes a natural logarithm to base two. -/
def kLog : EReal := (((Real.log 2)⁻¹ : ℝ) : EReal)
/-- The reference's temperature, the quotient of 1 by 100. -/
def gam : EReal := Ideal.div ((1 : ℝ) : EReal) ((100 : ℝ) : EReal)

/-- The minimum of the kernel's four candidates, in the kernel's order. -/
def minK (t1 t2 t3 t4 : EReal) : EReal := min (min (min t1 t4) t3) t2

/-- The kernel's exponential of a candidate against the minimum. -/
def expK (m t : EReal) : EReal := Ideal.exp2 ((m - t) * kScale)

/-- The kernel's cell from its four candidates. -/
def cellK (t1 t2 t3 t4 : EReal) : EReal :=
  minK t1 t2 t3 t4 - kAlpha * (Ideal.log (expK (minK t1 t2 t3 t4) t2 +
    ((expK (minK t1 t2 t3 t4) t1 + expK (minK t1 t2 t3 t4) t3) + expK (minK t1 t2 t3 t4) t4)) * kLog)

/-- The reference's exponential of a candidate against the minimum. -/
def expR (m t : EReal) : EReal := Ideal.exp (Ideal.div (-(t - m)) gam)

/-- The reference's cell from a minimum and a sum of exponentials. -/
def outR (m s : EReal) : EReal := -gam * Ideal.log s + m

/-- The minimum of the reference's candidates, the swap one only where `v`. -/
def minR (v : Prop) [Decidable v] (t1 t2 t3 t4 : EReal) : EReal :=
  if v then min (min (min t1 t2) t3) t4 else min (min t1 t2) t3

/-- The reference's cell from its candidates, the swap one taking part where `v` holds. -/
def cellR (v : Prop) [Decidable v] (t1 t2 t3 t4 : EReal) : EReal :=
  outR (minR v t1 t2 t3 t4) (expR (minR v t1 t2 t3 t4) t1 + expR (minR v t1 t2 t3 t4) t2 + expR (minR v t1 t2 t3 t4) t3 +
    (if v then expR (minR v t1 t2 t3 t4) t4 else 0))

theorem gam_eq : gam = ((1 / 100 : ℝ) : EReal) := by
  unfold gam
  rw [Ideal.div_coe (by norm_num)]
  norm_cast
  norm_num

theorem log_two_pos : (0 : ℝ) < Real.log 2 := Real.log_pos (by norm_num)

theorem div_gam (x : EReal) : Ideal.div x gam = x * ((100 : ℝ) : EReal) := by
  rw [gam_eq, Ideal.div_coe (by norm_num)]
  norm_num

theorem kScale_pos : (0 : ℝ) < 100 * (Real.log 2)⁻¹ := by
  have := log_two_pos
  positivity

theorem kAlpha_pos : (0 : ℝ) < (1 / 100) * Real.log 2 := by
  have := log_two_pos
  positivity

theorem kLog_pos : (0 : ℝ) < (Real.log 2)⁻¹ := by
  have := log_two_pos
  positivity

/-- Against a real minimum the two exponentials of a candidate not below it are one nonnegative real. -/
theorem exp_agree (r : ℝ) (t : EReal) (h : (r : EReal) ≤ t) :
    ∃ x : ℝ, 0 ≤ x ∧ expK r t = x ∧ expR r t = x := by
  induction t with
  | bot => exact absurd h (by simp)
  | top =>
    refine ⟨0, le_refl _, ?_, ?_⟩
    · unfold expK kScale
      rw [show (r : EReal) - ⊤ = ⊥ by rw [sub_eq_add_neg, EReal.neg_top, EReal.add_bot], EReal.bot_mul_coe_of_pos kScale_pos]
      simp
    · unfold expR
      rw [div_gam, EReal.top_sub_coe, EReal.neg_top, EReal.bot_mul_coe_of_pos (by norm_num)]
      simp
  | coe t =>
    refine ⟨Real.exp ((r - t) * 100), (Real.exp_pos _).le, ?_, ?_⟩
    · unfold expK kScale
      rw [← EReal.coe_sub, ← EReal.coe_mul, Ideal.exp2_coe]
      congr 1
      show (2 : ℝ) ^ ((r - t) * (100 * (Real.log 2)⁻¹)) = _
      rw [Real.rpow_def_of_pos (by norm_num)]
      congr 1
      have := log_two_pos.ne'
      field_simp
    · unfold expR
      rw [div_gam, ← EReal.coe_sub, ← EReal.coe_neg, ← EReal.coe_mul, Ideal.exp_coe]
      congr 2
      ring

/-- A candidate at the minimum counts one. -/
theorem expR_self (r : ℝ) : expR r r = ((1 : ℝ) : EReal) := by
  unfold expR
  rw [div_gam, ← EReal.coe_sub, ← EReal.coe_neg, ← EReal.coe_mul, Ideal.exp_coe]
  simp

/-- The two ways to finish a cell from a real minimum and a real sum agree. -/
theorem out_agree (r s : ℝ) :
    (r : EReal) - kAlpha * (Ideal.log (s : EReal) * kLog) = outR r s := by
  unfold outR kAlpha kLog
  rw [gam_eq, Ideal.log_coe]
  split
  · rw [EReal.bot_mul_coe_of_pos kLog_pos, EReal.coe_mul_bot_of_pos kAlpha_pos, ← EReal.coe_neg,
      EReal.coe_mul_bot_of_neg (by norm_num)]
    simp
  · rw [← EReal.coe_mul, ← EReal.coe_mul, ← EReal.coe_sub, ← EReal.coe_neg, ← EReal.coe_mul, ← EReal.coe_add]
    congr 1
    have := log_two_pos.ne'
    field_simp
    ring

theorem outR_ne_top (r s : ℝ) (hs : 0 < s) : outR r s ≠ ⊤ := by
  unfold outR
  rw [gam_eq, Ideal.log_coe, if_neg (not_le.mpr hs), ← EReal.coe_neg, ← EReal.coe_mul, ← EReal.coe_add]
  exact EReal.coe_ne_top _

/-- The kernel's exponential against `⊥` is 0. -/
theorem expK_bot (t : EReal) : expK ⊥ t = 0 := by
  unfold expK kScale
  rw [EReal.bot_sub, EReal.bot_mul_coe_of_pos kScale_pos]
  rfl

/-- The reference's exponential against `⊥` is nonnegative, -/
theorem expR_nonneg (m t : EReal) : 0 ≤ expR m t := by
  unfold expR
  generalize Ideal.div (-(t - m)) gam = x
  induction x with
  | bot => simp
  | top => simp
  | coe x => rw [Ideal.exp_coe]; exact_mod_cast (Real.exp_pos x).le

/-- and `⊤` of `⊥`. -/
theorem expR_bot_bot : expR ⊥ ⊥ = ⊤ := by
  unfold expR
  rw [div_gam, EReal.bot_sub, EReal.neg_bot, EReal.top_mul_coe_of_pos (by norm_num)]
  rfl

theorem outR_bot_top : outR ⊥ ⊤ = ⊥ := by
  unfold outR
  rw [EReal.add_bot]

/-- The kernel's cell is `⊥` where the minimum is. -/
theorem cellK_bot (t1 t2 t3 t4 : EReal) (h : minK t1 t2 t3 t4 = ⊥) : cellK t1 t2 t3 t4 = ⊥ := by
  unfold cellK
  rw [h]
  simp only [EReal.bot_sub]

/-- The reference's cell is `⊥` where the minimum is. -/
theorem cellR_bot (v : Prop) [Decidable v] (t1 t2 t3 t4 : EReal) (h : minR v t1 t2 t3 t4 = ⊥) :
    cellR v t1 t2 t3 t4 = ⊥ := by
  unfold cellR outR
  rw [h, EReal.add_bot]

/-- The kernel's cell of four absent candidates is absent. -/
theorem cellK_top : cellK ⊤ ⊤ ⊤ ⊤ = ⊤ := by
  have hm : minK ⊤ ⊤ ⊤ ⊤ = ⊤ := by simp [minK]
  have he : expK ⊤ ⊤ = 0 := by
    unfold expK kScale
    rw [show (⊤ : EReal) - ⊤ = ⊥ from rfl, EReal.bot_mul_coe_of_pos kScale_pos]
    rfl
  unfold cellK
  rw [hm, he]
  have h0 : Ideal.log (0 + (0 + 0 + 0)) = ⊥ := by
    rw [show (0 + (0 + 0 + 0) : EReal) = ((0 : ℝ) : EReal) by simp, Ideal.log_coe, if_pos (le_refl _)]
  rw [h0]
  unfold kAlpha kLog
  rw [EReal.bot_mul_coe_of_pos kLog_pos, EReal.coe_mul_bot_of_pos kAlpha_pos]
  rfl

theorem minK_le (t1 t2 t3 t4 : EReal) :
    minK t1 t2 t3 t4 ≤ t1 ∧ minK t1 t2 t3 t4 ≤ t2 ∧ minK t1 t2 t3 t4 ≤ t3 ∧ minK t1 t2 t3 t4 ≤ t4 := by
  unfold minK
  refine ⟨?_, min_le_right _ _, ?_, ?_⟩
  · exact (min_le_left _ _).trans ((min_le_left _ _).trans (min_le_left _ _))
  · exact (min_le_left _ _).trans (min_le_right _ _)
  · exact (min_le_left _ _).trans ((min_le_left _ _).trans (min_le_right _ _))

theorem minK_mem (t1 t2 t3 t4 : EReal) :
    minK t1 t2 t3 t4 = t1 ∨ minK t1 t2 t3 t4 = t2 ∨ minK t1 t2 t3 t4 = t3 ∨ minK t1 t2 t3 t4 = t4 := by
  unfold minK
  rcases min_choice (min (min t1 t4) t3) t2 with h | h <;> rw [h]
  · rcases min_choice (min t1 t4) t3 with h | h <;> rw [h]
    · rcases min_choice t1 t4 with h | h <;> rw [h] <;> simp
    · simp
  · simp

/-- The candidates the kernel sees: the swap one absent (`⊤`) where it does not take part. -/
theorem minR_eq (v : Prop) [Decidable v] (t1 t2 t3 t4 : EReal) :
    minR v t1 t2 t3 t4 = minK t1 t2 t3 (if v then t4 else ⊤) := by
  unfold minR minK
  split
  · ac_rfl
  · rw [min_top_right, min_assoc, min_comm t2, ← min_assoc]

/-- THE CELL: the two spellings agree where the minimum is not `⊤`, and the value is not `⊤` there. -/
theorem cell_agree (v : Prop) [Decidable v] (t1 t2 t3 t4 : EReal) (h : minR v t1 t2 t3 t4 ≠ ⊤) :
    cellK t1 t2 t3 (if v then t4 else ⊤) = cellR v t1 t2 t3 t4 ∧ cellR v t1 t2 t3 t4 ≠ ⊤ := by
  have hm := minR_eq v t1 t2 t3 t4
  by_cases hb : minR v t1 t2 t3 t4 = ⊥
  · rw [cellR_bot v _ _ _ _ hb, cellK_bot _ _ _ _ (hm ▸ hb)]
    exact ⟨rfl, by simp⟩
  · obtain ⟨r, hr⟩ : ∃ r : ℝ, minR v t1 t2 t3 t4 = r := by
      generalize minR v t1 t2 t3 t4 = x at h hb
      induction x with
      | bot => exact absurd rfl hb
      | top => exact absurd rfl h
      | coe x => exact ⟨x, rfl⟩
    have hle := minK_le t1 t2 t3 (if v then t4 else ⊤)
    have hmem := minK_mem t1 t2 t3 (if v then t4 else ⊤)
    rw [← hm, hr] at hle hmem
    obtain ⟨h1, h2, h3, h4⟩ := hle
    obtain ⟨x1, p1, k1, r1⟩ := exp_agree r _ h1
    obtain ⟨x2, p2, k2, r2⟩ := exp_agree r _ h2
    obtain ⟨x3, p3, k3, r3⟩ := exp_agree r _ h3
    obtain ⟨x4, p4, k4, r4⟩ := exp_agree r _ h4
    have r4' : (if v then expR r t4 else 0) = ((x4 : ℝ) : EReal) := by
      split
      · rename_i hv; rw [if_pos hv] at r4; exact r4
      · rename_i hv
        rw [if_neg hv] at r4
        rw [← r4]
        unfold expR
        rw [div_gam, EReal.top_sub_coe, EReal.neg_top, EReal.bot_mul_coe_of_pos (by norm_num)]
        rfl
    have hone : ∀ t : EReal, ∀ x : ℝ, (r : EReal) = t → expR r t = x → x = 1 := by
      intro t x ht hx
      rw [← ht, expR_self] at hx
      exact_mod_cast hx.symm
    have hpos : 0 < x1 + x2 + x3 + x4 := by
      rcases hmem with e | e | e | e
      · have := hone _ _ e r1; linarith
      · have := hone _ _ e r2; linarith
      · have := hone _ _ e r3; linarith
      · have := hone _ _ e r4; linarith
    have hR : cellR v t1 t2 t3 t4 = outR r ((x1 + x2 + x3 + x4 : ℝ) : EReal) := by
      unfold cellR
      rw [hr, r1, r2, r3, r4']
      push_cast
      rfl
    refine ⟨?_, hR ▸ outR_ne_top _ _ hpos⟩
    rw [hR, ← out_agree]
    unfold cellK
    rw [← hm, hr, k1, k2, k3, k4]
    congr 4
    norm_cast
    ring

end Cert.SoftRed

end
-- ==== Proof.Table.lean ====
/- The table of the soft restricted edit distance over any matrix of match costs, and the recursion over anti-diagonals that
   computes the same last cell: the recursion keeps, lane by lane, the table's row `l + 1` at step `k` in column
   `k - l - 1`, with lanes outside the table held at `⊤`, and reads the costs from a table skewed to its order. -/
module

public import proofs.«01_k».proof.Proof.Cell

@[expose] public section

noncomputable section

namespace Cert.SoftRed

open Idealize.ShloMosaic

/-- The cost of a swap, of an insertion and of a deletion. -/
def two : EReal := ((2 : ℝ) : EReal)

/-- The table's border: `n` insertions or deletions. -/
def border (n : ℕ) : EReal := (((n : ℤ) : ℝ) : EReal) * two

theorem two_ne_top : two ≠ ⊤ := EReal.coe_ne_top _
theorem two_ne_bot : two ≠ ⊥ := EReal.coe_ne_bot _

theorem border_coe (n : ℕ) : border n = (((n : ℝ) * 2 : ℝ) : EReal) := by
  unfold border two
  rw [← EReal.coe_mul]
  norm_cast

theorem border_ne_top (n : ℕ) : border n ≠ ⊤ := by rw [border_coe]; exact EReal.coe_ne_top _

/-- A border cell less two is the border cell before it. -/
theorem border_sub (n : ℕ) : border (n + 1) - two = border n := by
  rw [border_coe, border_coe]
  unfold two
  rw [← EReal.coe_sub]
  congr 1
  push_cast
  ring

theorem add_ne_top {a b : EReal} (ha : a ≠ ⊤) (hb : b ≠ ⊤) : a + b ≠ ⊤ := EReal.add_ne_top ha hb

theorem add_ne_bot {a b : EReal} (ha : a ≠ ⊥) (hb : b ≠ ⊥) : a + b ≠ ⊥ := by
  rw [Ne, EReal.add_eq_bot_iff]
  tauto

theorem top_add {a : EReal} (ha : a ≠ ⊥) : ⊤ + a = ⊤ := EReal.top_add_of_ne_bot ha

/-- The table: borders in row 0 and column 0, elsewhere a cell from its four candidates (the swap one from row and column
    2 on). -/
def D (C : ℕ → ℕ → EReal) : ℕ → ℕ → EReal
  | 0, j => border j
  | i + 1, 0 => border (i + 1)
  | i + 1, j + 1 => cellR (1 ≤ i ∧ 1 ≤ j) (D C i j + C i j) (D C i (j + 1) + two) (D C (i + 1) j + two)
      (((D C (i - 1) (j - 1) + C (i - 1) j) + C i (j - 1)) + two)
termination_by i j => i + j

theorem D_zero (C : ℕ → ℕ → EReal) (j : ℕ) : D C 0 j = border j := by rw [D]

theorem D_col (C : ℕ → ℕ → EReal) (i : ℕ) : D C i 0 = border i := by
  cases i with
  | zero => rw [D]
  | succ i => rw [D]

theorem D_succ (C : ℕ → ℕ → EReal) (i j : ℕ) : D C (i + 1) (j + 1) =
    cellR (1 ≤ i ∧ 1 ≤ j) (D C i j + C i j) (D C i (j + 1) + two) (D C (i + 1) j + two)
      (((D C (i - 1) (j - 1) + C (i - 1) j) + C i (j - 1)) + two) := by rw [D]

theorem minR_ne_top (v : Prop) [Decidable v] (t1 t2 t3 t4 : EReal) (h : t2 ≠ ⊤) : minR v t1 t2 t3 t4 ≠ ⊤ := by
  rw [minR_eq]
  intro e
  have := (minK_le t1 t2 t3 (if v then t4 else ⊤)).2.1
  rw [e, top_le_iff] at this
  exact h this

/-- No cell of the table is `⊤`. -/
theorem D_ne_top (C : ℕ → ℕ → EReal) (i j : ℕ) : D C i j ≠ ⊤ := by
  induction i generalizing j with
  | zero => rw [D_zero]; exact border_ne_top _
  | succ i ih =>
    cases j with
    | zero => rw [D_col]; exact border_ne_top _
    | succ j =>
      rw [D_succ]
      exact (cell_agree _ _ _ _ _ (minR_ne_top _ _ _ _ _ (add_ne_top (ih _) two_ne_top))).2

/-- The costs in the recursion's order: at step row `r` lane `l` meets column `r - l`, counted round the 512 columns. -/
def G (C : ℕ → ℕ → EReal) (r l : ℕ) : EReal := C l ((r + 512 - l) % 512)

/-- The two costs and the swap cost a swap adds in the recursion's order; lane 0 has none. -/
def W (C : ℕ → ℕ → EReal) (r l : ℕ) : EReal := if l = 0 then ⊤ else (G C r (l - 1) + G C r l) + two

/-- What the recursion carries: the last anti-diagonal, and the three before it moved one lane up. -/
structure Carry where
  e : ℕ → EReal
  h1 : ℕ → EReal
  h2 : ℕ → EReal
  h3 : ℕ → EReal

/-- The recursion's start: the anti-diagonal of step 1. -/
def wave0 : Carry where
  e l := if l = 0 then two else ⊤
  h1 l := if l = 0 then 0 else ⊤
  h2 _ := ⊤
  h3 _ := ⊤

/-- The anti-diagonal moved one lane up, its border cell put in at lane 0. -/
def up (n : ℕ) (s : Carry) (l : ℕ) : EReal := if l = 0 then border (n + 2) - two else s.e (l - 1)

/-- Step `n` of the recursion, which computes the anti-diagonal of step `n + 2`. -/
def waveStep (C : ℕ → ℕ → EReal) (n : ℕ) (s : Carry) : Carry where
  e l := if l = n + 1 then border (n + 2) else
    cellK (s.h1 l + G C (n % 512) l) (up n s l + two) (s.e l + two)
      ((if l = 0 then ⊤ else s.h3 (l - 1)) + W C ((n + 511) % 512) l)
  h1 := up n s
  h2 := s.h1
  h3 := s.h2

/-- The carry after `n` steps. -/
def wave (C : ℕ → ℕ → EReal) : ℕ → Carry
  | 0 => wave0
  | n + 1 => waveStep C n (wave C n)

/-- Two carries that agree on lanes below 512 step to carries that agree there. -/
theorem waveStep_congr (C : ℕ → ℕ → EReal) (n : ℕ) (s t : Carry)
    (h : ∀ l < 512, s.e l = t.e l ∧ s.h1 l = t.h1 l ∧ s.h2 l = t.h2 l ∧ s.h3 l = t.h3 l) (l : ℕ) (hl : l < 512) :
    (waveStep C n s).e l = (waveStep C n t).e l ∧ (waveStep C n s).h1 l = (waveStep C n t).h1 l
      ∧ (waveStep C n s).h2 l = (waveStep C n t).h2 l ∧ (waveStep C n s).h3 l = (waveStep C n t).h3 l := by
  have hm := h (l - 1) (by omega)
  have h0 := h l hl
  refine ⟨?_, ?_, h0.2.1, h0.2.2.1⟩
  · simp only [waveStep, up, h0.1, h0.2.1, hm.1, hm.2.2.2]
  · simp only [waveStep, up, hm.1]

/-- What the carry holds after `n` steps when no cost is `⊥`: the table's cells, and `⊤` off the table. -/
structure Inv (C : ℕ → ℕ → EReal) (n : ℕ) (s : Carry) : Prop where
  e_off : ∀ l, l < 512 → n < l → s.e l = ⊤
  e_col : ∀ l, l < 512 → l = n → s.e l = border (n + 1)
  e_in : ∀ l, l < 512 → l < n → n - l ≤ 512 → s.e l = D C (l + 1) (n - l)
  h1_off : ∀ l, l < 512 → n < l → s.h1 l = ⊤
  h1_in : ∀ l, l < 512 → l ≤ n → n - l ≤ 512 → s.h1 l = D C l (n - l)
  h2_off : ∀ l, l < 512 → n ≤ l → s.h2 l = ⊤
  h2_in : ∀ l, l < 512 → l < n → n - 1 - l ≤ 512 → s.h2 l = D C l (n - 1 - l)
  h3_off : ∀ l, l < 512 → n ≤ l + 1 → s.h3 l = ⊤
  h3_in : ∀ l, l < 512 → l + 1 < n → n - 2 - l ≤ 512 → s.h3 l = D C l (n - 2 - l)

theorem inv_zero (C : ℕ → ℕ → EReal) : Inv C 0 wave0 where
  e_off l _ h := if_neg (by omega)
  e_col l _ h := by
    subst h
    rw [border_coe]
    simp [wave0, two]
  e_in l _ h := absurd h (by omega)
  h1_off l _ h := if_neg (by omega)
  h1_in l _ h _ := by
    obtain rfl : l = 0 := by omega
    rw [D_zero, border_coe]
    simp [wave0]
  h2_off _ _ _ := rfl
  h2_in l _ h := absurd h (by omega)
  h3_off _ _ _ := rfl
  h3_in l _ h := absurd h (by omega)

theorem G_ne_bot (C : ℕ → ℕ → EReal) (hC : ∀ i < 512, ∀ j < 512, C i j ≠ ⊥) (r l : ℕ) (hl : l < 512) : G C r l ≠ ⊥ :=
  hC l hl _ (Nat.mod_lt _ (by norm_num))

theorem W_ne_bot (C : ℕ → ℕ → EReal) (hC : ∀ i < 512, ∀ j < 512, C i j ≠ ⊥) (r l : ℕ) (hl : l < 512) : W C r l ≠ ⊥ := by
  unfold W
  split
  · simp
  · exact add_ne_bot (add_ne_bot (G_ne_bot C hC _ _ (by omega)) (G_ne_bot C hC _ _ hl)) two_ne_bot

/-- The moved anti-diagonal holds the table's cells one row up. -/
theorem up_in (C : ℕ → ℕ → EReal) (n : ℕ) (s : Carry) (hI : Inv C n s) (l : ℕ) (hl : l < 512) (h : l ≤ n + 1)
    (h' : n + 1 - l ≤ 512) : up n s l = D C l (n + 1 - l) := by
  unfold up
  split
  · next h0 => subst h0; rw [border_sub, D_zero]; rfl
  · next h0 =>
    obtain ⟨k, rfl⟩ : ∃ k, l = k + 1 := ⟨l - 1, by omega⟩
    rw [Nat.add_sub_cancel]
    by_cases hk : k = n
    · rw [hI.e_col k (by omega) hk, hk, Nat.sub_self, D_col]
    · rw [hI.e_in k (by omega) (by omega) (by omega)]
      congr 1
      omega

theorem up_off (C : ℕ → ℕ → EReal) (n : ℕ) (s : Carry) (hI : Inv C n s) (l : ℕ) (hl : l < 512) (h : n + 1 < l) :
    up n s l = ⊤ := by
  unfold up
  rw [if_neg (by omega)]
  exact hI.e_off _ (by omega) (by omega)

/-- A step keeps the invariant when no cost is `⊥`. -/
theorem inv_step (C : ℕ → ℕ → EReal) (hC : ∀ i < 512, ∀ j < 512, C i j ≠ ⊥) (n : ℕ) (s : Carry) (hI : Inv C n s) :
    Inv C (n + 1) (waveStep C n s) where
  e_off l hl h := by
    have hW := W_ne_bot C hC ((n + 511) % 512) l hl
    have hG := G_ne_bot C hC (n % 512) l hl
    show (if l = n + 1 then _ else _) = _
    rw [if_neg (by omega), hI.h1_off l hl (by omega), up_off C n s hI l hl h, hI.e_off l hl (by omega), if_neg (by omega),
      hI.h3_off (l - 1) (by omega) (by omega), top_add hG, top_add two_ne_bot, top_add hW, cellK_top]
  e_col l hl h := if_pos h
  e_in l hl h h' := by
    have hW := W_ne_bot C hC ((n + 511) % 512) l hl
    show (if l = n + 1 then _ else _) = _
    rw [if_neg (by omega)]
    have e1 : s.h1 l + G C (n % 512) l = D C l (n - l) + C l (n - l) := by
      rw [hI.h1_in l hl (by omega) (by omega)]
      unfold G
      congr 2
      omega
    have e2 : up n s l = D C l (n - l + 1) := by
      rw [up_in C n s hI l hl (by omega) (by omega)]
      congr 1
      omega
    have e3 : s.e l = D C (l + 1) (n - l) := by
      by_cases hk : l = n
      · rw [hI.e_col l hl hk, hk, Nat.sub_self, D_col]
      · exact hI.e_in l hl (by omega) (by omega)
    have e4 : (if l = 0 then ⊤ else s.h3 (l - 1)) + W C ((n + 511) % 512) l = if 1 ≤ l ∧ 1 ≤ n - l then
        ((D C (l - 1) (n - l - 1) + C (l - 1) (n - l)) + C l (n - l - 1)) + two else ⊤ := by
      by_cases h0 : l = 0
      · rw [if_pos h0, if_neg (by omega), top_add hW]
      · rw [if_neg h0]
        by_cases hn : l = n
        · rw [if_neg (by omega), hI.h3_off (l - 1) (by omega) (by omega), top_add hW]
        · rw [if_pos (by omega), hI.h3_in (l - 1) (by omega) (by omega) (by omega)]
          unfold W
          rw [if_neg h0]
          unfold G
          rw [show n - 2 - (l - 1) = n - l - 1 by omega, show ((n + 511) % 512 + 512 - (l - 1)) % 512 = n - l by omega,
            show ((n + 511) % 512 + 512 - l) % 512 = n - l - 1 by omega]
          ac_rfl
    rw [e1, e2, e3, e4, show n + 1 - l = n - l + 1 by omega, D_succ]
    exact (cell_agree _ _ _ _ _ (minR_ne_top _ _ _ _ _ (add_ne_top (D_ne_top C _ _) two_ne_top))).1
  h1_off l hl h := up_off C n s hI l hl h
  h1_in l hl h h' := up_in C n s hI l hl h h'
  h2_off l hl h := hI.h1_off l hl (by omega)
  h2_in l hl h h' := by
    have := hI.h1_in l hl (by omega) (by omega)
    rwa [Nat.add_sub_cancel]
  h3_off l hl h := hI.h2_off l hl (by omega)
  h3_in l hl h h' := by
    rw [show n + 1 - 2 - l = n - 1 - l by omega]
    exact hI.h2_in l hl (by omega) (by omega)

theorem inv_wave (C : ℕ → ℕ → EReal) (hC : ∀ i < 512, ∀ j < 512, C i j ≠ ⊥) (n : ℕ) : Inv C n (wave C n) := by
  induction n with
  | zero => exact inv_zero C
  | succ n ih => exact inv_step C hC n _ ih

theorem minK_bot (t1 t2 t3 t4 : EReal) (h : t1 = ⊥ ∨ t2 = ⊥ ∨ t3 = ⊥) : minK t1 t2 t3 t4 = ⊥ := by
  obtain ⟨h1, h2, h3, -⟩ := minK_le t1 t2 t3 t4
  rcases h with h | h | h
  · exact le_bot_iff.mp (h1.trans h.le)
  · exact le_bot_iff.mp (h2.trans h.le)
  · exact le_bot_iff.mp (h3.trans h.le)

/-- A cost that is `⊥` makes every cell below and right of it `⊥` in the table. -/
theorem D_bot (C : ℕ → ℕ → EReal) (p q : ℕ) (h : C p q = ⊥) (a b : ℕ) : D C (p + a + 1) (q + b + 1) = ⊥ := by
  induction a generalizing b with
  | zero =>
    induction b with
    | zero =>
      rw [D_succ]
      refine cellR_bot _ _ _ _ _ ?_
      rw [minR_eq]
      refine minK_bot _ _ _ _ (.inl ?_)
      show _ + C (p + 0) (q + 0) = ⊥
      rw [show C (p + 0) (q + 0) = ⊥ from h, EReal.add_bot]
    | succ b ih =>
      rw [D_succ]
      refine cellR_bot _ _ _ _ _ ?_
      rw [minR_eq]
      refine minK_bot _ _ _ _ (.inr (.inr ?_))
      rw [← Nat.add_assoc, ih, EReal.bot_add]
  | succ a ih =>
    rw [D_succ]
    refine cellR_bot _ _ _ _ _ ?_
    rw [minR_eq]
    refine minK_bot _ _ _ _ (.inr (.inl ?_))
    rw [← Nat.add_assoc, ih, EReal.bot_add]

/-- The same of the recursion. -/
theorem wave_bot (C : ℕ → ℕ → EReal) (p q : ℕ) (hq : q < 512) (hp : p < 512) (h : C p q = ⊥) (a b : ℕ) :
    (wave C (p + a + q + b + 1)).e (p + a) = ⊥ := by
  induction a generalizing b with
  | zero =>
    induction b with
    | zero =>
      show (if p + 0 = _ then _ else _) = _
      rw [if_neg (by omega)]
      refine cellK_bot _ _ _ _ (minK_bot _ _ _ _ (.inl ?_))
      have : G C ((p + 0 + q) % 512) (p + 0) = ⊥ := by
        unfold G
        rw [← h]
        congr 1
        omega
      show _ + G C ((p + 0 + q) % 512) (p + 0) = ⊥
      rw [this, EReal.add_bot]
    | succ b ih =>
      show (if p + 0 = _ then _ else _) = _
      rw [if_neg (by omega)]
      refine cellK_bot _ _ _ _ (minK_bot _ _ _ _ (.inr (.inr ?_)))
      rw [show p + 0 + q + (b + 1) = p + 0 + q + b + 1 by omega, ih, EReal.bot_add]
  | succ a ih =>
    show (if p + (a + 1) = _ then _ else _) = _
    rw [if_neg (by omega)]
    refine cellK_bot _ _ _ _ (minK_bot _ _ _ _ (.inr (.inl ?_)))
    unfold up
    rw [if_neg (by omega), show p + (a + 1) + q + b = p + a + q + b + 1 by omega, show p + (a + 1) - 1 = p + a by omega, ih,
      EReal.bot_add]

/-- The recursion ends with the table's last cell. -/
theorem wave_last (C : ℕ → ℕ → EReal) : (wave C 1023).e 511 = D C 512 512 := by
  by_cases hC : ∀ i < 512, ∀ j < 512, C i j ≠ ⊥
  · exact (inv_wave C hC 1023).e_in 511 (by omega) (by omega) (by omega)
  · push Not at hC
    obtain ⟨p, hp, q, hq, h⟩ := hC
    have h1 := D_bot C p q h (511 - p) (511 - q)
    have h2 := wave_bot C p q hq hp h (511 - p) (511 - q)
    rw [show p + (511 - p) + 1 = 512 by omega, show q + (511 - q) + 1 = 512 by omega] at h1
    rw [show p + (511 - p) + q + (511 - q) + 1 = 1023 by omega, show p + (511 - p) = 511 by omega] at h2
    rw [h1, h2]

end Cert.SoftRed

end
-- ==== Proof.Skew.lean ====
/- The costs, skewed: where the four chunks of products stand after the row rolls, and the swap costs made of them. -/
module

public import proofs.«01_k».proof.Proof.KernelRun
public import proofs.«01_k».proof.Proof.Table
public import Idealize.ShloMosaic.Lib.Pointwise

@[expose] public section

set_option maxRecDepth 16384

noncomputable section

namespace Cert.Skew

open Idealize.ShloMosaic Idealize.ShloMosaic.TcCoe
open Cert.KernelIdeal Cert.KernelIdeal.Gen Cert.KernelRun Cert.SoftRed

/-- The row `k` before `r`, around the end. -/
def back (k : ℕ) (r : Fin 512) : Fin 512 := ⟨(r.val + (512 - k % 512)) % 512, Nat.mod_lt _ (by norm_num)⟩

theorem back_back (a b : ℕ) (r : Fin 512) : back a (back b r) = back (a + b) r := by
  apply Fin.ext
  simp only [back]
  omega

/-- `x` is `base` with lane `l` moved down `f l` rows. -/
def Moved (base x : FVec Ideal S512x128 .f32) (f : Fin 128 → ℕ) : Prop :=
  ∀ (r : Fin 512) (l : Fin 128), x (ix2 r l) = base (ix2 (back (f l) r) l)

theorem moved_zero (base : FVec Ideal S512x128 .f32) : Moved base base (fun _ => 0) := fun r l => by
  congr 2
  apply Fin.ext
  simp [back]
  omega

/-! ## Moving all rows -/

/-- `k` rows of 128 lanes. -/
abbrev rows (k : ℕ) : Shape := ⟨2, ![k, 128]⟩

theorem rows_slices {o k : ℕ} (h : o + k ≤ 512) : S512x128.Slices ![o, 0] (rows k) :=
  ⟨rfl, fun a => by fin_cases a; exacts [h, le_refl 128]⟩

theorem rows_concatenates {k k' : ℕ} (h : k + k' = 512) : Shape.Concatenates [rows k, rows k'] S512x128 0 := by
  refine ⟨le_refl 2, fun s hs => ?_, ?_⟩
  · simp only [List.mem_cons, List.not_mem_nil, or_false] at hs
    rcases hs with rfl | rfl
    all_goals exact ⟨rfl, fun b hb => by fin_cases b; exacts [absurd rfl hb, rfl]⟩
  · simpa [rows] using h

/-- All rows moved down `k`: the last `k` rows, then the `k'` before them. -/
def roll (k k' : ℕ) (h : k + k' = 512) (x : FVec Ideal S512x128 .f32) : FVec Ideal S512x128 .f32 :=
  concatenate S512x128 0 [⟨rows k, extractStridedSlice (rows k) ![k', 0] x (rows_slices (by omega))⟩,
    ⟨rows k', extractStridedSlice (rows k') ![0, 0] x (rows_slices (by omega))⟩] (rows_concatenates h)

theorem roll_at (k k' : ℕ) (h : k + k' = 512) (x : FVec Ideal S512x128 .f32) (r : Fin 512) (l : Fin 128) :
    roll k k' h x (ix2 r l) = x (ix2 (back k r) l) := by
  pointwise [roll]
  split
  · congr 2
    apply Fin.ext
    show k' + r.val = (r.val + (512 - k % 512)) % 512
    omega
  · congr 2
    apply Fin.ext
    show r.val - k = (r.val + (512 - k % 512)) % 512
    omega

/-! ## Moving the lanes that have a bit -/

/-- `y` in the lanes whose number meets `k`, `x` in the others. -/
def bySel (k : BitVec 32) (y x : FVec Ideal S512x128 .f32) : FVec Ideal S512x128 .f32 :=
  select (cmpi .ne (andi lanes (broadcast S512x128 k)) (broadcast S512x128 0#32)) y x

theorem bySel_at (k : BitVec 32) (y x : FVec Ideal S512x128 .f32) (r : Fin 512) (l : Fin 128) :
    bySel k y x (ix2 r l) = if BitVec.ofNat 32 l.val &&& k ≠ 0#32 then y (ix2 r l) else x (ix2 r l) := by
  pointwise [bySel, lanes]
  by_cases h : BitVec.ofNat 32 l.val &&& k = 0#32
  · simp [Scalar.select, IntOp.cmpi, IntOp.andi, h]
  · have hb : (BitVec.ofNat 32 l.val &&& k != 0#32) = true := by simpa using h
    rw [if_pos h, Scalar.select, if_pos]
    simp only [IntOp.cmpi, IntOp.andi, hb]
    rfl

theorem bySel_moved {k : BitVec 32} {n : ℕ} {base x y : FVec Ideal S512x128 .f32} {f : Fin 128 → ℕ}
    (hy : ∀ r l, y (ix2 r l) = x (ix2 (back n r) l)) (hx : Moved base x f) :
    Moved base (bySel k y x) (fun l => f l + if BitVec.ofNat 32 l.val &&& k ≠ 0#32 then n else 0) := by
  intro r l
  rw [bySel_at]
  dsimp only
  split_ifs with h
  · rw [hy, hx, back_back]
  · rw [hx, Nat.add_zero]

/-- The lanes whose number has the bit `k` moved down `k` rows. -/
def stage (k k' : ℕ) (h : k + k' = 512) (x : FVec Ideal S512x128 .f32) : FVec Ideal S512x128 .f32 := bySel (BitVec.ofNat 32 k) (roll k k' h x) x

theorem stage_moved {k k' : ℕ} (h : k + k' = 512) {base x : FVec Ideal S512x128 .f32} {f : Fin 128 → ℕ} (hx : Moved base x f) :
    Moved base (stage k k' h x) (fun l => f l + if BitVec.ofNat 32 l.val &&& BitVec.ofNat 32 k ≠ 0#32 then k else 0) :=
  bySel_moved (roll_at k k' h x) hx

/-- Every lane moved down by its number, a bit at a time. -/
def stages (x : FVec Ideal S512x128 .f32) : FVec Ideal S512x128 .f32 :=
  stage 64 448 rfl (stage 32 480 rfl (stage 16 496 rfl (stage 8 504 rfl (stage 4 508 rfl (stage 2 510 rfl (stage 1 511 rfl x))))))

theorem stages_moved {base x : FVec Ideal S512x128 .f32} {n : ℕ} (h : Moved base x (fun _ => n)) :
    Moved base (stages x) (fun l => n + l.val) := by
  have h7 := stage_moved (k := 64) (k' := 448) rfl (stage_moved (k := 32) (k' := 480) rfl (stage_moved (k := 16) (k' := 496) rfl
    (stage_moved (k := 8) (k' := 504) rfl (stage_moved (k := 4) (k' := 508) rfl (stage_moved (k := 2) (k' := 510) rfl
    (stage_moved (k := 1) (k' := 511) rfl h))))))
  intro r l
  refine (h7 r l).trans ?_
  congr 3
  simp only [Nat.add_assoc, Nat.add_left_cancel_iff]
  clear h7 h
  revert l
  decide +kernel

/-! ## The chunks -/

/-- Minus the products of one chunk's rows with all of the others. -/
def negDot (b : Vec Ideal S512x1024 .f32) (a : Vec Ideal S128x1024 .f32) : FVec Ideal S512x128 .f32 :=
  subf (broadcast S512x128 (Scalar.ofBits .f32 0x00000000#32))
    (matmul dot_S512x1024_S128x1024_S512x128_1_1_0_0_n_n none (φ₁ := .f32) (φ₂ := .f32) b a (constant S512x128 .f32 0x00000000#32))

theorem negDot_at (b : Vec Ideal S512x1024 .f32) (a : Vec Ideal S128x1024 .f32) (r : Fin 512) (l : Fin 128) :
    negDot b a (ix2 r l) = -∑ k : Fin 1024, a (ix2 l k) * b (ix2 r k) := by
  pointwise [negDot]
  rw [zero_sub]
  exact congrArg Neg.neg (Finset.sum_congr rfl fun k _ => mul_comm _ _)

theorem skew0_eq (b : Vec Ideal S512x1024 .f32) (a : Vec Ideal S128x1024 .f32) : skew0 b a = stages (negDot b a) := rfl
theorem skew1_eq (b : Vec Ideal S512x1024 .f32) (a : Vec Ideal S128x1024 .f32) : skew1 b a = stages (roll 128 384 rfl (negDot b a)) := rfl
theorem skew2_eq (b : Vec Ideal S512x1024 .f32) (a : Vec Ideal S128x1024 .f32) : skew2 b a = stages (roll 256 256 rfl (negDot b a)) := rfl
theorem skew3_eq (b : Vec Ideal S512x1024 .f32) (a : Vec Ideal S128x1024 .f32) : skew3 b a = stages (roll 384 128 rfl (negDot b a)) := rfl

/-- A chunk holds the skewed costs of lanes `o + l`. -/
def Costs (C : ℕ → ℕ → EReal) (o : ℕ) (g : FVec Ideal S512x128 .f32) : Prop :=
  ∀ (r : Fin 512) (l : Fin 128), g (ix2 r l) = G C r.val (o + l.val)

theorem costs_of_moved {C : ℕ → ℕ → EReal} {o : ℕ} {b : Vec Ideal S512x1024 .f32} {a : Vec Ideal S128x1024 .f32} {x : FVec Ideal S512x128 .f32}
    (ho : o ≤ 384) (hC : ∀ (l : Fin 128) (j : Fin 512), -∑ k : Fin 1024, a (ix2 l k) * b (ix2 j k) = C (o + l.val) j.val)
    (h : Moved (negDot b a) x (fun l => o + l.val)) : Costs C o x := by
  intro r l
  rw [h r l, negDot_at, hC]
  simp only [G, back]
  congr 1
  omega

theorem roll_moved {n : ℕ} {base y : FVec Ideal S512x128 .f32} (h : ∀ r l, y (ix2 r l) = base (ix2 (back n r) l)) : Moved base y (fun _ => n) := h

variable {C : ℕ → ℕ → EReal} {b : Vec Ideal S512x1024 .f32} {a : Vec Ideal S128x1024 .f32}

theorem skew0_costs (hC : ∀ (l : Fin 128) (j : Fin 512), -∑ k : Fin 1024, a (ix2 l k) * b (ix2 j k) = C (0 + l.val) j.val) :
    Costs C 0 (skew0 b a) := costs_of_moved (by norm_num) hC (skew0_eq b a ▸ stages_moved (moved_zero _))
theorem skew1_costs (hC : ∀ (l : Fin 128) (j : Fin 512), -∑ k : Fin 1024, a (ix2 l k) * b (ix2 j k) = C (128 + l.val) j.val) :
    Costs C 128 (skew1 b a) := costs_of_moved (by norm_num) hC (skew1_eq b a ▸ stages_moved (roll_moved (roll_at 128 384 rfl _)))
theorem skew2_costs (hC : ∀ (l : Fin 128) (j : Fin 512), -∑ k : Fin 1024, a (ix2 l k) * b (ix2 j k) = C (256 + l.val) j.val) :
    Costs C 256 (skew2 b a) := costs_of_moved (by norm_num) hC (skew2_eq b a ▸ stages_moved (roll_moved (roll_at 256 256 rfl _)))
theorem skew3_costs (hC : ∀ (l : Fin 128) (j : Fin 512), -∑ k : Fin 1024, a (ix2 l k) * b (ix2 j k) = C (384 + l.val) j.val) :
    Costs C 384 (skew3 b a) := costs_of_moved (by norm_num) hC (skew3_eq b a ▸ stages_moved (roll_moved (roll_at 384 128 rfl _)))

/-! ## The swap costs -/

/-- A chunk turned one lane on, around the end. -/
def turn (g : FVec Ideal S512x128 .f32) : FVec Ideal S512x128 .f32 := dynamicRotate 1 1#32 none g rotates_S512x128_d1

theorem turn_at (g : FVec Ideal S512x128 .f32) (r : Fin 512) (l : Fin 128) :
    turn g (ix2 r l) = g (ix2 r ⟨(l.val + 127) % 128, Nat.mod_lt _ (by norm_num)⟩) := by
  pointwise [turn]
  congr 2

theorem skew3r_eq (b : Vec Ideal S512x1024 .f32) (a : Vec Ideal S128x1024 .f32) : skew3r b a = turn (skew3 b a) := rfl

/-- A chunk holds the swap costs of lanes `o + l`. -/
def Swaps (C : ℕ → ℕ → EReal) (o : ℕ) (w : FVec Ideal S512x128 .f32) : Prop :=
  ∀ (r : Fin 512) (l : Fin 128), w (ix2 r l) = W C r.val (o + l.val)

theorem two_bits : Ideal.ofBits .f32 0x40000000#32 = two := by
  simp [two, Ideal.ofBits, Ideal.ieee, -EReal.coe_mul]; norm_num

/-- The bound the kernel masks with is `⊤`. -/
theorem big_top : Named.named (F := Ideal) κ "big" (φ := .f32) 1900671690#32 = ⊤ :=
  IdealRules.named_const.ideal_named_scalar _ _ _ _ rfl

theorem lane_zero (l : Fin 128) (x y : EReal) :
    Scalar.select (IntOp.cmpi CmpIPredicate.eq (BitVec.ofNat 32 l.val) 0#32) x y = if l.val = 0 then x else y := by
  have h : BitVec.ofNat 32 l.val = 0#32 ↔ l.val = 0 := by revert l; decide +kernel
  by_cases hl : l.val = 0
  · simp [Scalar.select, IntOp.cmpi, hl]
  · have hb : (BitVec.ofNat 32 l.val == 0#32) = false := by simpa using mt h.mp hl
    rw [if_neg hl, Scalar.select, if_neg]
    simp only [IntOp.cmpi, hb]
    decide

/-- One chunk's swap costs from its costs and the chunk before. -/
def swapOf (p g : FVec Ideal S512x128 .f32) : FVec Ideal S512x128 .f32 :=
  addf (addf (select (cmpi .eq lanes (broadcast S512x128 0#32)) (turn p) (turn g)) g)
    (broadcast S512x128 (Scalar.ofBits .f32 0x40000000#32))

theorem swapOf_at (p g : FVec Ideal S512x128 .f32) (r : Fin 512) (l : Fin 128) :
    swapOf p g (ix2 r l) = ((if l.val = 0 then turn p (ix2 r l) else turn g (ix2 r l)) + g (ix2 r l)) + two := by
  pointwise [swapOf, lanes]
  rw [two_bits]
  congr 2
  exact lane_zero l _ _

theorem swap0_at (g : FVec Ideal S512x128 .f32) (r : Fin 512) (l : Fin 128) :
    swap0 g (ix2 r l) = if l.val = 0 then ⊤ else swapOf g g (ix2 r l) := by
  pointwise [swap0, lanes, k0_pay66, k0_pay65]
  rw [lane_zero, big_top, swapOf_at, two_bits]
  split_ifs <;> rfl

theorem swap1_eq (g0 g1 : FVec Ideal S512x128 .f32) : swap1 g0 g1 = swapOf g0 g1 := rfl
theorem swap2_eq (g1 g2 : FVec Ideal S512x128 .f32) : swap2 g1 g2 = swapOf g1 g2 := rfl
theorem swap3_eq (g2 g3 : FVec Ideal S512x128 .f32) : swap3 g2 g3 (turn g3) = swapOf g2 g3 := rfl

theorem swapOf_swaps {C : ℕ → ℕ → EReal} {o : ℕ} {p g : FVec Ideal S512x128 .f32} (hp : Costs C o p) (hg : Costs C (o + 128) g) :
    Swaps C (o + 128) (swapOf p g) := by
  intro r l
  have hl := l.isLt
  have hW : W C r.val (o + 128 + l.val) = (G C r.val (o + 128 + l.val - 1) + G C r.val (o + 128 + l.val)) + two :=
    if_neg (by omega)
  rw [swapOf_at, turn_at, turn_at, hp, hg, hg, hW]
  congr 2
  split_ifs with h
  · congr 1
    show o + (l.val + 127) % 128 = o + 128 + l.val - 1
    omega
  · congr 1
    show o + 128 + (l.val + 127) % 128 = o + 128 + l.val - 1
    omega

theorem swap0_swaps {C : ℕ → ℕ → EReal} {g : FVec Ideal S512x128 .f32} (hg : Costs C 0 g) : Swaps C 0 (swap0 g) := by
  intro r l
  rw [swap0_at, W]
  have hl := l.isLt
  by_cases h : l.val = 0
  · rw [if_pos h, if_pos (by show 0 + l.val = 0; omega)]
  · rw [if_neg h, if_neg (by show ¬ 0 + l.val = 0; omega), swapOf_at, if_neg h, turn_at, hg, hg]
    congr 3
    show 0 + (l.val + 127) % 128 = 0 + l.val - 1
    omega

end Cert.Skew

end
-- ==== Proof.Repack.lean ====
/- The repacking: after its 64 trips a packed buffer's row `r` holds, in sublane `s` and lane `l`, the row `r` of chunk `s`'s lane `l`. -/
module

public import proofs.«01_k».proof.Proof.Skew
public import Idealize.ShloMosaic.Lib.WritesUnit

@[expose] public section

set_option maxRecDepth 16384

noncomputable section

namespace Cert.Repack

open Idealize.ShloMosaic Idealize.ShloMosaic.TcCoe
open Cert.KernelIdeal Cert.KernelIdeal.Gen Cert.KernelRun Cert.SoftRed Cert.Skew

/-! ## The staging buffer -/

section Staged

variable (v : View sig .tc .vmem S4x512x128 .f32) (f : v.ty.Contents (Elt Ideal)) (w0 w1 w2 w3 : FVec Ideal S1x512x128 .f32)
  (L : List (View.Piece (Elt Ideal) S4x512x128 .f32))

/-- Four chunks stored over the staging buffer. -/
def fourPieces : List (View.Piece (Elt Ideal) S4x512x128 .f32) :=
  (⟨Rect.unit ![3, 0, 0] S1x512x128.size inb_S4x512x128_S1x512x128_3_0_0, w3⟩ : View.Piece (Elt Ideal) S4x512x128 .f32) ::
    ⟨Rect.unit ![2, 0, 0] S1x512x128.size inb_S4x512x128_S1x512x128_2_0_0, w2⟩ ::
    ⟨Rect.unit ![1, 0, 0] S1x512x128.size inb_S4x512x128_S1x512x128_1_0_0, w1⟩ ::
    ⟨Rect.unit ![0, 0, 0] S1x512x128.size inb_S4x512x128_S1x512x128_0_0_0, w0⟩ :: L

/-- Each reads back from its own place. -/
theorem fourPieces_at (q : Fin 4) (r : Fin 512) (l : Fin 128) :
    v.read (Elt Ideal) (v.writes (Elt Ideal) f (fourPieces w0 w1 w2 w3 L)) (ix3 q r l)
      = (![w0, w1, w2, w3] q : FVec Ideal S1x512x128 .f32) (ix3 0 r l) := by
  have miss : ∀ (n : ℕ) (inb : ∀ a, (![n, 0, 0] : Fin 3 → ℕ) a + S1x512x128.size a ≤ S4x512x128.size a) (w : FVec Ideal S1x512x128 .f32)
      (M : List (View.Piece (Elt Ideal) S4x512x128 .f32)), q.val ≠ n →
      v.read (Elt Ideal) (v.writes (Elt Ideal) f ((⟨Rect.unit ![n, 0, 0] S1x512x128.size inb, w⟩ : View.Piece (Elt Ideal) S4x512x128 .f32) :: M)) (ix3 q r l)
        = v.read (Elt Ideal) (v.writes (Elt Ideal) f M) (ix3 q r l) := fun n inb w M h =>
    View.read_writes_cons_unit_of_not_mem v f inb w M (ix3 q r l) rfl 0 (by
      show q.val < n ∨ n + 1 ≤ q.val
      omega)
  have hit : ∀ (n : ℕ) (inb : ∀ a, (![n, 0, 0] : Fin 3 → ℕ) a + S1x512x128.size a ≤ S4x512x128.size a) (w : FVec Ideal S1x512x128 .f32)
      (M : List (View.Piece (Elt Ideal) S4x512x128 .f32)), q.val = n →
      v.read (Elt Ideal) (v.writes (Elt Ideal) f ((⟨Rect.unit ![n, 0, 0] S1x512x128.size inb, w⟩ : View.Piece (Elt Ideal) S4x512x128 .f32) :: M)) (ix3 q r l)
        = w (ix3 0 r l) := fun n inb w M h =>
    View.read_writes_cons_unit_of_mem v f inb w M (ix3 q r l) (ix3 0 r l) rfl (fun a => by
      fin_cases a
      · exact h.trans (Nat.add_zero n).symm
      · exact (Nat.zero_add _).symm
      · exact (Nat.zero_add _).symm)
  unfold fourPieces
  fin_cases q
  · rw [miss 3 _ _ _ (by decide), miss 2 _ _ _ (by decide), miss 1 _ _ _ (by decide), hit 0 _ _ _ rfl]; rfl
  · rw [miss 3 _ _ _ (by decide), miss 2 _ _ _ (by decide), hit 1 _ _ _ rfl]; rfl
  · rw [miss 3 _ _ _ (by decide), hit 2 _ _ _ rfl]; rfl
  · rw [hit 3 _ _ _ rfl]; rfl

end Staged

/-! ## One packed row -/

/-- How far chunk `i`'s block turns for the row `j` of eight. -/
def amt (i j : ℕ) : BitVec 32 := BitVec.ofNat 32 ((8 + i - j) % 8)

/-- Row `j` of four blocks of eight rows, a block to a sublane. -/
def packRow (sub : IVec S8x128 32) (j : ℕ) (a0 a1 a2 a3 : FVec Ideal S8x128 .f32) : FVec Ideal S1x8x128 .f32 :=
  shapeCast S1x8x128 (shapeCast S1x8x128
    (select (cmpi .eq sub (broadcast S8x128 3#32)) (dynamicRotate 0 (amt 3 j) none a3 rotates_S8x128_d0)
    (select (cmpi .eq sub (broadcast S8x128 2#32)) (dynamicRotate 0 (amt 2 j) none a2 rotates_S8x128_d0)
    (select (cmpi .eq sub (broadcast S8x128 1#32)) (dynamicRotate 0 (amt 1 j) none a1 rotates_S8x128_d0)
    (select (cmpi .eq sub (broadcast S8x128 0#32)) (dynamicRotate 0 (amt 0 j) none a0 rotates_S8x128_d0)
      (mulf a0 (broadcast S8x128 (Scalar.ofBits .f32 0x00000000#32)))))))
    shapeCasts_S8x128_S1x8x128) shapeCasts_S1x8x128_S1x8x128

theorem packRow_at (j : Fin 8) (a0 a1 a2 a3 : FVec Ideal S8x128 .f32) (q : Fin 4) (s : Fin 8) (hs : s.val = q.val) (l : Fin 128) :
    packRow subs8 j.val a0 a1 a2 a3 (ix3 0 s l) = (![a0, a1, a2, a3] q : FVec Ideal S8x128 .f32) (ix2 j l) := by
  obtain ⟨s, hs8⟩ := s
  subst hs
  have hrow : ∀ (i : Fin 4) (j : Fin 8), (i.val + 8 - (amt i.val j.val).toNat % 8) % 8 = j.val := by decide +kernel
  have hj : ∀ (n : ℕ) (hn : n < 8), n = j.val → (⟨n, hn⟩ : Fin 8) = j := fun n hn h => Fin.ext h
  pointwise [packRow, subs8]
  fin_cases q
  · exact congrArg (fun t => a0 (ix2 t l)) (hj _ _ (hrow 0 j))
  · exact congrArg (fun t => a1 (ix2 t l)) (hj _ _ (hrow 1 j))
  · exact congrArg (fun t => a2 (ix2 t l)) (hj _ _ (hrow 2 j))
  · exact congrArg (fun t => a3 (ix2 t l)) (hj _ _ (hrow 3 j))

/-- Eight rows of one chunk, read from the staging buffer. -/
def block (v : View sig .tc .vmem S4x512x128 .f32) (X : v.ty.Contents (Elt Ideal)) (off : Fin 3 → ℕ)
    (inb : ∀ a, off a + S1x8x128.size a ≤ S4x512x128.size a) : FVec Ideal S8x128 .f32 :=
  shapeCast S8x128 (View.readAt (Elt Ideal) v (Rect.unit (s := S4x512x128) off S1x8x128.size inb).toLoadRect X) shapeCasts_S1x8x128_S8x128

theorem cast_row (x : FVec Ideal S1x8x128 .f32) (j : Fin 8) (l : Fin 128) :
    shapeCast S8x128 x shapeCasts_S1x8x128_S8x128 (ix2 j l) = x (ix3 (0 : Fin 1) j l) := by
  pointwise

theorem block_at (v : View sig .tc .vmem S4x512x128 .f32) (X : v.ty.Contents (Elt Ideal)) {off : Fin 3 → ℕ}
    (inb : ∀ a, off a + S1x8x128.size a ≤ S4x512x128.size a) (q : Fin 4) (k : ℕ) (hoff : off = ![q.val, 8 * k, 0]) (j : Fin 8) (l : Fin 128)
    (hk : 8 * k + j.val < 512) :
    block v X off inb (ix2 j l) = v.read (Elt Ideal) X (ix3 q ⟨8 * k + j.val, hk⟩ l) := by
  have e : block v X off inb (ix2 j l)
      = View.readAt (Elt Ideal) v (Rect.unit (s := S4x512x128) off S1x8x128.size inb).toLoadRect X (ix3 (0 : Fin 1) j l) := by
    unfold block
    exact cast_row _ j l
  rw [e]
  refine congrArg (v.read (Elt Ideal) X) (funext fun a => Fin.ext ?_)
  subst hoff
  fin_cases a
  · exact Nat.add_zero _
  · exact congrArg (8 * k + ·) (Nat.one_mul j.val)
  · exact (Nat.zero_add _).trans (Nat.one_mul l.val)

/-! ## The two loops -/

/-- The eight rows a trip stores. -/
def rowPieces (off : Fin 8 → Fin 3 → ℕ) (inb : ∀ i a, off i a + S1x8x128.size a ≤ S512x8x128.size a)
    (a0 a1 a2 a3 : FVec Ideal S8x128 .f32) : List (View.Piece (Elt Ideal) S512x8x128 .f32) :=
  View.tilePieces (s := S512x8x128) S1x8x128.size off inb (fun j => packRow subs8 j.val a0 a1 a2 a3) 8 (le_refl 8)

variable (c : Dev nD) (arg0 : Memref sig .tc .vmem S512x1024 .f32) (harg0 : arg0.IsWhole) (arg1 : Memref sig .tc .vmem S512x1024 .f32) (harg1 : arg1.IsWhole) (arg2 : Memref sig .tc .vmem S1x1 .f32) (harg2 : arg2.IsWhole) (arg3 : Memref sig .tc .vmem S512x8x128 .f32) (harg3 : arg3.IsWhole) (arg4 : Memref sig .tc .vmem S512x8x128 .f32) (harg4 : arg4.IsWhole) (arg5 : Memref sig .tc .vmem S4x512x128 .f32)
    (harg5 : arg5.IsWhole)

section Costs

variable (g0 g1 g2 g3 g3r : FVec Ideal S512x128 .f32) (X : BufTy.Contents (Elt Ideal) arg5.view.ty)

theorem trip1_eq (k : Fin k0_t1_loop.trips) (b : IVec S512x128 1) (x y z w : FVec Ideal S512x128 .f32) :
    tripL_k0_t1 (F := Ideal) Variants.none c none arg0 harg0 arg1 harg1 arg2 harg2 arg3 harg3 arg4 harg4 arg5 harg5 g0 g1 g2 g3 x y b z w subs8 X k
      = rowPieces (fun j => k0_off5 k (BitVec.ofNat 32 j.val)) (k0_off5_inb k)
          (block arg5.view X (k0_off1 k) (k0_off1_inb k)) (block arg5.view X (k0_off2 k) (k0_off2_inb k))
          (block arg5.view X (k0_off3 k) (k0_off3_inb k)) (block arg5.view X (k0_off4 k) (k0_off4_inb k)) := by
  unfold tripL_k0_t1 trip_k0_t1
  rfl

end Costs

section Swaps

variable (w1 w2 w3 : FVec Ideal S512x128 .f32) (X : BufTy.Contents (Elt Ideal) arg5.view.ty)

theorem trip2_eq (k : Fin k0_t2_loop.trips) :
    tripL_k0_t2 (F := Ideal) Variants.none c none arg0 harg0 arg1 harg1 arg2 harg2 arg3 harg3 arg4 harg4 arg5 harg5 w1 w2 w3 subs8 lanes8 k0_pay71 X k
      = rowPieces (fun j => k0_off10 k (BitVec.ofNat 32 j.val)) (k0_off10_inb k)
          (block arg5.view X (k0_off6 k) (k0_off6_inb k)) (block arg5.view X (k0_off7 k) (k0_off7_inb k))
          (block arg5.view X (k0_off8 k) (k0_off8_inb k)) (block arg5.view X (k0_off9 k) (k0_off9_inb k)) := by
  unfold tripL_k0_t2 trip_k0_t2
  rfl

end Swaps

/-- A packed buffer's row `r` holds, in sublane `q < 4`, `val q r`. -/
def Packed (v : View sig .tc .vmem S512x8x128 .f32) (f : v.ty.Contents (Elt Ideal)) (n : ℕ) (val : Fin 4 → Fin 512 → Fin 128 → EReal) : Prop :=
  ∀ (r : Fin 512) (s : Fin 8) (q : Fin 4) (l : Fin 128), s.val = q.val → r.val < 8 * n →
    v.read (Elt Ideal) f (ix3 r s l) = val q r l

/-- A trip's rows over a buffer packed that far. -/
theorem packed_step {v : View sig .tc .vmem S512x8x128 .f32} {f : v.ty.Contents (Elt Ideal)} {k : ℕ} {val : Fin 4 → Fin 512 → Fin 128 → EReal}
    (hf : Packed v f k val) (hk : k < 64) {off : Fin 8 → Fin 3 → ℕ} (hoff : ∀ j, off j = ![8 * k + j.val, 0, 0])
    (inb : ∀ i a, off i a + S1x8x128.size a ≤ S512x8x128.size a) (a0 a1 a2 a3 : FVec Ideal S8x128 .f32)
    (ha : ∀ (q : Fin 4) (j : Fin 8) (l : Fin 128), (![a0, a1, a2, a3] q : FVec Ideal S8x128 .f32) (ix2 j l) = val q ⟨8 * k + j.val, by omega⟩ l) :
    Packed v (v.writes (Elt Ideal) f (rowPieces off inb a0 a1 a2 a3)) (k + 1) val := by
  intro r s q l hs hr
  by_cases h : r.val < 8 * k
  · rw [← hf r s q l hs h]
    refine View.read_tilePieces_miss v f _ off inb _ 8 _ (ix3 r s l) 0 fun j _ => Or.inl ?_
    rw [hoff j]
    show r.val < 8 * k + j.val
    omega
  · have hj : r.val - 8 * k < 8 := by omega
    refine (View.read_tilePieces v f _ off inb _ 8 _ (ix3 r s l) ⟨r.val - 8 * k, hj⟩ hj (ix3 (0 : Fin 1) s l) (fun a => ?_) 0 fun j hne => ?_).trans ?_
    · rw [hoff]
      fin_cases a
      · show r.val = 8 * k + (r.val - 8 * k) + 0; omega
      · show s.val = 0 + s.val; omega
      · show l.val = 0 + l.val; omega
    · rw [hoff j]
      have hn : j.val ≠ r.val - 8 * k := fun h => hne (Fin.ext h)
      show r.val < 8 * k + j.val ∨ 8 * k + j.val + 1 ≤ r.val
      omega
    · rw [packRow_at ⟨r.val - 8 * k, hj⟩ a0 a1 a2 a3 q s hs l, ha]
      congr 1
      apply Fin.ext
      show 8 * k + (r.val - 8 * k) = r.val
      omega

theorem trips1 : k0_t1_loop.trips = 64 := by decide +kernel
theorem trips2 : k0_t2_loop.trips = 64 := by decide +kernel

theorem packed1 (X : BufTy.Contents (Elt Ideal) arg5.view.ty) (fs : BufTy.Contents (Elt Ideal) arg3.view.ty) (b : IVec S512x128 1)
    (g0 g1 g2 g3 x y z w : FVec Ideal S512x128 .f32) {val : Fin 4 → Fin 512 → Fin 128 → EReal}
    (hX : ∀ q r l, arg5.view.read (Elt Ideal) X (ix3 q r l) = val q r l) (n : ℕ) (hn : n ≤ 64) :
    Packed arg3.view (arg3.view.writes (Elt Ideal) fs (pb_k0_t1 (F := Ideal) Variants.none c none arg0 harg0 arg1 harg1 arg2 harg2 arg3 harg3 arg4 harg4 arg5 harg5 g0 g1 g2 g3 x y b z w subs8 X n)) n val := by
  induction n with
  | zero => intro r s q l _ h; omega
  | succ n ih =>
    have hk : n < k0_t1_loop.trips := by rw [trips1]; omega
    rw [pb_k0_t1_succ (F := Ideal) Variants.none c none arg0 harg0 arg1 harg1 arg2 harg2 arg3 harg3 arg4 harg4 arg5 harg5 g0 g1 g2 g3 x y b z w subs8 X ⟨n, hk⟩, View.writes_append, trip1_eq]
    refine packed_step (ih (by omega)) (by omega) (fun j => k0_off5_eq ⟨n, hk⟩ j) _ _ _ _ _ fun q j l => ?_
    fin_cases q
    · exact (block_at arg5.view X _ 0 n (k0_off1_eq ⟨n, hk⟩) j l _).trans (hX _ _ _)
    · exact (block_at arg5.view X _ 1 n (k0_off2_eq ⟨n, hk⟩) j l _).trans (hX _ _ _)
    · exact (block_at arg5.view X _ 2 n (k0_off3_eq ⟨n, hk⟩) j l _).trans (hX _ _ _)
    · exact (block_at arg5.view X _ 3 n (k0_off4_eq ⟨n, hk⟩) j l _).trans (hX _ _ _)

theorem packed2 (X : BufTy.Contents (Elt Ideal) arg5.view.ty) (fs : BufTy.Contents (Elt Ideal) arg4.view.ty)
    (w1 w2 w3 : FVec Ideal S512x128 .f32) {val : Fin 4 → Fin 512 → Fin 128 → EReal}
    (hX : ∀ q r l, arg5.view.read (Elt Ideal) X (ix3 q r l) = val q r l) (n : ℕ) (hn : n ≤ 64) :
    Packed arg4.view (arg4.view.writes (Elt Ideal) fs (pb_k0_t2 (F := Ideal) Variants.none c none arg0 harg0 arg1 harg1 arg2 harg2 arg3 harg3 arg4 harg4 arg5 harg5 w1 w2 w3 subs8 lanes8 k0_pay71 X n)) n val := by
  induction n with
  | zero => intro r s q l _ h; omega
  | succ n ih =>
    have hk : n < k0_t2_loop.trips := by rw [trips2]; omega
    rw [pb_k0_t2_succ (F := Ideal) Variants.none c none arg0 harg0 arg1 harg1 arg2 harg2 arg3 harg3 arg4 harg4 arg5 harg5 w1 w2 w3 subs8 lanes8 k0_pay71 X ⟨n, hk⟩, View.writes_append, trip2_eq]
    refine packed_step (ih (by omega)) (by omega) (fun j => k0_off10_eq ⟨n, hk⟩ j) _ _ _ _ _ fun q j l => ?_
    fin_cases q
    · exact (block_at arg5.view X _ 0 n (k0_off6_eq ⟨n, hk⟩) j l _).trans (hX _ _ _)
    · exact (block_at arg5.view X _ 1 n (k0_off7_eq ⟨n, hk⟩) j l _).trans (hX _ _ _)
    · exact (block_at arg5.view X _ 2 n (k0_off8_eq ⟨n, hk⟩) j l _).trans (hX _ _ _)
    · exact (block_at arg5.view X _ 3 n (k0_off9_eq ⟨n, hk⟩) j l _).trans (hX _ _ _)

/-! ## The packed buffers hold the skewed costs -/

/-- A view of a packed buffer holds `val` of the step and the lane, lanes numbered across the first four sublanes. -/
def Holds (v : View sig .tc .vmem S512x8x128 .f32) (f : v.ty.Contents (Elt Ideal)) (val : ℕ → ℕ → EReal) : Prop :=
  ∀ (r : Fin 512) (s : Fin 8) (l : Fin 128), s.val < 4 → v.read (Elt Ideal) f (ix3 r s l) = val r.val (128 * s.val + l.val)

theorem chunk_at (g : FVec Ideal S512x128 .f32) (r : Fin 512) (l : Fin 128) :
    shapeCast S1x512x128 g shapeCasts_S512x128_S1x512x128 (ix3 (0 : Fin 1) r l) = g (ix2 r l) := by
  pointwise

variable {C : ℕ → ℕ → EReal} {g0 g1 g2 g3 g3r : FVec Ideal S512x128 .f32}
  (h0 : Costs C 0 g0) (h1 : Costs C 128 g1) (h2 : Costs C 256 g2) (h3 : Costs C 384 g3) (h3r : g3r = turn g3)

include h0 h1 h2 h3 in
theorem packedCosts_holds (fs : BufTy.Contents (Elt Ideal) arg3.view.ty) :
    Holds arg3.view (packedCosts c arg0 harg0 arg1 harg1 arg2 harg2 arg3 harg3 arg4 harg4 arg5 harg5 g0 g1 g2 g3 g3r fs) (G C) := by
  intro r s l hs
  refine packed1 c arg0 harg0 arg1 harg1 arg2 harg2 arg3 harg3 arg4 harg4 arg5 harg5 (arg5.view.writes (Elt Ideal) arg5.view.junk (costPieces g0 g1 g2 g3)) fs _ _ _ _ _ _ _ _ _
    (val := fun q r l => G C r.val (128 * q.val + l.val)) (fun q r l => ?_) 64 (le_refl _) r s ⟨s.val, hs⟩ l rfl (by omega)
  refine (fourPieces_at arg5.view _ (k0_pay72 g0) (k0_pay73 g1) (k0_pay74 g2) (k0_pay75 g3) [] q r l).trans ?_
  fin_cases q
  · exact (chunk_at g0 r l).trans (h0 r l)
  · exact (chunk_at g1 r l).trans (h1 r l)
  · exact (chunk_at g2 r l).trans (h2 r l)
  · exact (chunk_at g3 r l).trans (h3 r l)

include h0 h1 h2 h3 h3r in
theorem packedSwaps_holds (fs : BufTy.Contents (Elt Ideal) arg4.view.ty) :
    Holds arg4.view (packedSwaps c arg0 harg0 arg1 harg1 arg2 harg2 arg3 harg3 arg4 harg4 arg5 harg5 g0 g1 g2 g3 g3r fs) (W C) := by
  subst h3r
  intro r s l hs
  refine packed2 c arg0 harg0 arg1 harg1 arg2 harg2 arg3 harg3 arg4 harg4 arg5 harg5 (arg5.view.writes (Elt Ideal) arg5.view.junk (swapPieces g0 g1 g2 g3 (turn g3))) fs _ _ _
    (val := fun q r l => W C r.val (128 * q.val + l.val)) (fun q r l => ?_) 64 (le_refl _) r s ⟨s.val, hs⟩ l rfl (by omega)
  refine (fourPieces_at arg5.view _ (k0_pay77 (swap0 g0)) (k0_pay78 (swap1 g0 g1)) (k0_pay79 (swap2 g1 g2)) (k0_pay80 (swap3 g2 g3 (turn g3)))
    (costPieces g0 g1 g2 g3) q r l).trans ?_
  fin_cases q
  · exact (chunk_at (swap0 g0) r l).trans (swap0_swaps h0 r l)
  · exact (chunk_at (swap1 g0 g1) r l).trans (swapOf_swaps h0 h1 r l)
  · exact (chunk_at (swap2 g1 g2) r l).trans (swapOf_swaps h1 h2 r l)
  · exact (chunk_at (swap3 g2 g3 (turn g3)) r l).trans (swapOf_swaps h2 h3 r l)

end Cert.Repack

end
-- ==== Proof.Wave.lean ====
/- The loop over anti-diagonals: lane `128 s + l` of its carry is sublane `s`, lane `l`, and each trip is one step of the recursion. -/
module

public import proofs.«01_k».proof.Proof.Repack

@[expose] public section

set_option maxRecDepth 16384

noncomputable section

namespace Cert.Wave

open Idealize.ShloMosaic Idealize.ShloMosaic.TcCoe
open Cert.KernelIdeal Cert.KernelIdeal.Gen Cert.KernelRun Cert.SoftRed Cert.Skew Cert.Repack

/-- The loop's carry. -/
abbrev Acc : Type := FVec Ideal S8x128 .f32 × FVec Ideal S8x128 .f32 × FVec Ideal S8x128 .f32 × FVec Ideal S8x128 .f32

/-- The mask of each sublane's lane 0. -/
def mask0 : IVec S8x128 1 := k0_pay85 lanes8

/-- One trip's carry, from the two rows it loads. -/
def tripVec (k : Fin k0_t3_loop.trips) (y3 y4 : FVec Ideal S1x8x128 .f32) (acc : Acc) : Acc :=
  (k0_pay87 k0_pay71 (Scf.iv 2#32 1#32 k) (k0_pay38 2#32 1#32 k) (k0_pay40 acc.2.1 y3) (k0_pay41 acc.1)
      (k0_pay42 k0_pay71 mask0 (Named.named κ "big" 1900671690#32) acc.2.2.2 y4)
      (k0_pay44 k0_pay71 mask0 (Named.named κ "big" 1900671690#32) 2#32 1#32 k acc.1 acc.2.1 acc.2.2.2 y3 y4)
      (k0_pay45 k0_pay71 mask0 (Named.named κ "big" 1900671690#32) 2#32 1#32 k acc.1 acc.2.1 acc.2.2.2 y3 y4),
    k0_pay39 k0_pay71 mask0 2#32 1#32 k acc.1, acc.2.1, acc.2.2.1)

/-- A packed row as a trip loads it. -/
def rowAt (v : View sig .tc .vmem S512x8x128 .f32) (X : v.ty.Contents (Elt Ideal)) (off : Fin 3 → ℕ)
    (inb : ∀ a, off a + S1x8x128.size a ≤ S512x8x128.size a) : FVec Ideal S1x8x128 .f32 :=
  v.readAt (Elt Ideal) (Rect.unit (s := S512x8x128) off S1x8x128.size inb).toLoadRect X

theorem rowAt_apply (v : View sig .tc .vmem S512x8x128 .f32) (X : v.ty.Contents (Elt Ideal)) {off : Fin 3 → ℕ}
    (inb : ∀ a, off a + S1x8x128.size a ≤ S512x8x128.size a) (r : Fin 512) (hoff : off = ![r.val, 0, 0]) (s : Fin 8) (l : Fin 128) :
    rowAt v X off inb (ix3 0 s l) = v.read (Elt Ideal) X (ix3 r s l) := by
  subst hoff
  refine congrArg (v.read (Elt Ideal) X) (funext fun a => Fin.ext ?_)
  fin_cases a
  · exact Nat.add_zero _
  · exact (Nat.zero_add _).trans (Nat.one_mul _)
  · exact (Nat.zero_add _).trans (Nat.one_mul _)

section Loop

variable (c : Dev nD) (arg0 : Memref sig .tc .vmem S512x1024 .f32) (harg0 : arg0.IsWhole) (arg1 : Memref sig .tc .vmem S512x1024 .f32) (harg1 : arg1.IsWhole) (arg2 : Memref sig .tc .vmem S1x1 .f32) (harg2 : arg2.IsWhole) (arg3 : Memref sig .tc .vmem S512x8x128 .f32) (harg3 : arg3.IsWhole) (arg4 : Memref sig .tc .vmem S512x8x128 .f32) (harg4 : arg4.IsWhole) (arg5 : Memref sig .tc .vmem S4x512x128 .f32) (harg5 : arg5.IsWhole)
  (w1 w2 w3 : FVec Ideal S512x128 .f32) (X3 : BufTy.Contents (Elt Ideal) arg3.view.ty) (X4 : BufTy.Contents (Elt Ideal) arg4.view.ty)

theorem trip3_eq (k : Fin k0_t3_loop.trips) (acc : Acc) :
    tripR_k0_t3 (F := Ideal) Variants.none c none arg0 harg0 arg1 harg1 arg2 harg2 arg3 harg3 arg4 harg4 arg5 harg5 w1 w2 w3 subs8 lanes8 k0_pay71 (Named.named κ "big" 1900671690#32) X3 X4 k acc
      = tripVec k (rowAt arg3.view X3 (k0_off11 k 2#32) (k0_off11_inb k 0)) (rowAt arg4.view X4 (k0_off11 k 3#32) (k0_off11_inb k 1)) acc := by
  unfold tripR_k0_t3 trip_k0_t3
  rfl

end Loop

/-! ## Where the loop reads, and how it numbers lanes -/

theorem trips3 : k0_t3_loop.trips = 1023 := by decide +kernel

theorem off11_cost : ∀ k : Fin k0_t3_loop.trips, k0_off11 k 2#32 = ![k.val % 512, 0, 0] := by decide +kernel
theorem off11_swap : ∀ k : Fin k0_t3_loop.trips, k0_off11 k 3#32 = ![(k.val + 511) % 512, 0, 0] := by decide +kernel

/-- The lane number at a sublane and a lane. -/
theorem number_at (s : Fin 8) (l : Fin 128) : (k0_pay71 : IVec S8x128 32) (ix2 s l) = BitVec.ofNat 32 (128 * s.val + l.val) := by
  have h : (k0_pay71 : IVec S8x128 32) (ix2 s l) = BitVec.ofNat 32 s.val * 128#32 + BitVec.ofNat 32 l.val := by
    unfold k0_pay71
    pointwise []
    rfl
  rw [h]
  apply BitVec.eq_of_toNat_eq
  have := s.isLt; have := l.isLt
  simp only [BitVec.toNat_add, BitVec.toNat_mul, BitVec.toNat_ofNat]
  omega

/-- A choice by the lane number. -/
theorem number_select (s : Fin 8) (l : Fin 128) (n : ℕ) (hn : n < 4096) (x y : EReal) :
    Scalar.select (IntOp.cmpi .eq ((k0_pay71 : IVec S8x128 32) (ix2 s l)) (BitVec.ofNat 32 n)) x y = if 128 * s.val + l.val = n then x else y := by
  rw [number_at]
  have := s.isLt; have := l.isLt
  by_cases h : 128 * s.val + l.val = n
  · rw [if_pos h, h]; simp [Scalar.select, IntOp.cmpi]
  · rw [if_neg h]
    have : BitVec.ofNat 32 (128 * s.val + l.val) ≠ BitVec.ofNat 32 n := fun e => h (by
      have := congrArg BitVec.toNat e
      simp only [BitVec.toNat_ofNat] at this
      omega)
    have hb : (BitVec.ofNat 32 (128 * s.val + l.val) == BitVec.ofNat 32 n) = false := beq_eq_false_iff_ne.mpr this
    simp [Scalar.select, IntOp.cmpi, hb]

/-- A trip's induction variable. -/
theorem iv_eq (k : Fin k0_t3_loop.trips) : Scf.iv 2#32 1#32 k = BitVec.ofNat 32 (k.val + 2) := by
  revert k; decide +kernel
theorem iv_pred (k : Fin k0_t3_loop.trips) : Scf.iv 2#32 1#32 k - 1#32 = BitVec.ofNat 32 (k.val + 1) := by
  revert k; decide +kernel
theorem iv_toInt (k : Fin k0_t3_loop.trips) : (Scf.iv 2#32 1#32 k).toInt = ((k.val + 2 : ℕ) : ℤ) := by
  revert k; decide +kernel

/-! ## One trip, lane by lane -/

/-- A vector over the lane numbers below 512 reads as a function of them. -/
def On (x : FVec Ideal S8x128 .f32) (f : ℕ → EReal) : Prop :=
  ∀ (s : Fin 8) (l : Fin 128), s.val < 4 → x (ix2 s l) = f (128 * s.val + l.val)

/-- The rotations by one lane, and by one sublane where the lane is 0, read the lane number before. -/
theorem shift_at {x : FVec Ideal S8x128 .f32} {f : ℕ → EReal} (h : On x f) (s : Fin 8) (l : Fin 128) (hs : s.val < 4)
    (p1 : (s.val + 8 - 1) % 8 < 8) (p2 p3 : (l.val + 128 - 1) % 128 < 128) (b : EReal) :
    (if 128 * s.val + l.val = 0 then b else
      if l.val = 0 then x (ix2 ⟨(s.val + 8 - 1) % 8, p1⟩ ⟨(l.val + 128 - 1) % 128, p2⟩) else x (ix2 s ⟨(l.val + 128 - 1) % 128, p3⟩))
      = if 128 * s.val + l.val = 0 then b else f (128 * s.val + l.val - 1) := by
  by_cases hn : 128 * s.val + l.val = 0
  · rw [if_pos hn, if_pos hn]
  rw [if_neg hn, if_neg hn]
  have := l.isLt
  by_cases hl : l.val = 0
  · rw [if_pos hl, h _ _ (by show (s.val + 8 - 1) % 8 < 4; omega)]
    refine congrArg f ?_
    show 128 * ((s.val + 8 - 1) % 8) + (l.val + 128 - 1) % 128 = _
    omega
  · rw [if_neg hl, h _ _ hs]
    refine congrArg f ?_
    show 128 * s.val + (l.val + 128 - 1) % 128 = _
    omega

theorem up_at (k : Fin k0_t3_loop.trips) {e : FVec Ideal S8x128 .f32} {s : Carry} (h : On e s.e) :
    On (k0_pay39 k0_pay71 mask0 2#32 1#32 k e) (up k.val s) := by
  intro r l hr
  unfold mask0 k0_pay85 lanes8
  pointwise [k0_pay39, k0_pay38]
  rw [number_select r l 0 (by norm_num), lane_zero l, shift_at h r l hr, two_bits, iv_toInt]
  rfl

theorem t4_at {x : FVec Ideal S8x128 .f32} {f w : ℕ → EReal} (h : On x f) (y4 : FVec Ideal S1x8x128 .f32)
    (hy : ∀ (s : Fin 8) (l : Fin 128), s.val < 4 → y4 (ix3 0 s l) = w (128 * s.val + l.val)) :
    On (k0_pay42 k0_pay71 mask0 (Named.named κ "big" 1900671690#32) x y4) (fun l => (if l = 0 then ⊤ else f (l - 1)) + w l) := by
  intro r l hr
  unfold mask0 k0_pay85 lanes8
  pointwise [k0_pay42]
  rw [number_select r l 0 (by norm_num), lane_zero l, shift_at h r l hr, big_top, hy r l hr]

theorem scale_eq : Named.named (F := Ideal) κ "inv_alpha_ln2" (φ := .f32) 1125139710#32 = kScale :=
  IdealRules.named_const.ideal_named_scalar _ _ _ _ rfl
theorem alpha_eq : Named.named (F := Ideal) κ "alpha_ln2" (φ := .f32) 1004740966#32 = kAlpha :=
  IdealRules.named_const.ideal_named_scalar _ _ _ _ rfl
theorem log_eq : Named.named (F := Ideal) κ "log2e" (φ := .f32) 1069066811#32 = kLog :=
  IdealRules.named_const.ideal_named_scalar _ _ _ _ rfl

/-- The carry vectors read as a carry of the recursion. -/
structure Agree (acc : Acc) (s : Carry) : Prop where
  e : On acc.1 s.e
  h1 : On acc.2.1 s.h1
  h2 : On acc.2.2.1 s.h2
  h3 : On acc.2.2.2 s.h3

theorem trip_agree (C : ℕ → ℕ → EReal) (k : Fin k0_t3_loop.trips) (y3 y4 : FVec Ideal S1x8x128 .f32)
    (h3 : ∀ (s : Fin 8) (l : Fin 128), s.val < 4 → y3 (ix3 0 s l) = G C (k.val % 512) (128 * s.val + l.val))
    (h4 : ∀ (s : Fin 8) (l : Fin 128), s.val < 4 → y4 (ix3 0 s l) = W C ((k.val + 511) % 512) (128 * s.val + l.val))
    {acc : Acc} {s : Carry} (h : Agree acc s) : Agree (tripVec k y3 y4 acc) (waveStep C k.val s) where
  e := by
    intro r l hr
    have hk : k.val < 1023 := trips3 ▸ k.isLt
    have hiv : Scalar.subi (Scf.iv 2#32 1#32 k.val) 1#32 = BitVec.ofNat 32 (k.val + 1) := iv_pred k
    have hx : (k0_pay38 (F := Ideal) 2#32 1#32 k : EReal) = border (k.val + 2) := by
      show (((Scf.iv 2#32 1#32 k.val).toInt : ℝ) : EReal) * Ideal.ofBits .f32 1073741824#32 = _
      rw [two_bits, iv_toInt]
      rfl
    have hup := up_at k h.e r l hr
    have ht4 := t4_at h.h3 y4 h4 r l hr
    show k0_pay87 k0_pay71 _ _ _ _ _ _ _ (ix2 r l) = _
    pointwise [k0_pay87, k0_pay45, k0_pay44, k0_pay43, k0_pay41, k0_pay40]
    rw [hiv, number_select r l (k.val + 1) (by omega), hup, ht4, hx, two_bits, scale_eq, alpha_eq, log_eq, h.e r l hr, h.h1 r l hr, h3 r l hr]
    rfl
  h1 := up_at k h.e
  h2 := h.h1
  h3 := h.h2

theorem init_at (y : FVec Ideal S1x8x128 .f32) :
    Agree (k0_pay84 (F := Ideal) k0_pay71 y, k0_pay86 (F := Ideal) k0_pay71 y, k0_pay83 (F := Ideal) y, k0_pay83 (F := Ideal) y) wave0 := by
  have h3 : On (k0_pay83 (F := Ideal) y) wave0.h3 := by
    intro r l _
    pointwise [k0_pay83, k0_pay82]
    rw [big_top, mul_zero, zero_add]
    rfl
  refine ⟨?_, ?_, h3, h3⟩
  · intro r l _
    pointwise [k0_pay84, k0_pay82]
    rw [number_select r l 0 (by norm_num), two_bits, big_top, mul_zero, add_zero]
    rfl
  · intro r l _
    pointwise [k0_pay86, k0_pay82]
    rw [number_select r l 0 (by norm_num), big_top, mul_zero, add_zero]
    rfl

/-! ## The loop -/

section Loop

variable (c : Dev nD) (arg0 : Memref sig .tc .vmem S512x1024 .f32) (harg0 : arg0.IsWhole) (arg1 : Memref sig .tc .vmem S512x1024 .f32) (harg1 : arg1.IsWhole) (arg2 : Memref sig .tc .vmem S1x1 .f32) (harg2 : arg2.IsWhole) (arg3 : Memref sig .tc .vmem S512x8x128 .f32) (harg3 : arg3.IsWhole) (arg4 : Memref sig .tc .vmem S512x8x128 .f32) (harg4 : arg4.IsWhole) (arg5 : Memref sig .tc .vmem S4x512x128 .f32) (harg5 : arg5.IsWhole)
  (w1 w2 w3 : FVec Ideal S512x128 .f32) (X3 : BufTy.Contents (Elt Ideal) arg3.view.ty) (X4 : BufTy.Contents (Elt Ideal) arg4.view.ty)
  {C : ℕ → ℕ → EReal}

include C in
theorem loop_agree (h3 : Holds arg3.view X3 (G C)) (h4 : Holds arg4.view X4 (W C)) (init : Acc) (h0 : Agree init wave0) (n : ℕ) (hn : n ≤ 1023) :
    Agree (st_k0_t3 (F := Ideal) Variants.none c none arg0 harg0 arg1 harg1 arg2 harg2 arg3 harg3 arg4 harg4 arg5 harg5 w1 w2 w3 subs8 lanes8 k0_pay71 (Named.named κ "big" 1900671690#32) X3 X4 init n) (wave C n) := by
  induction n with
  | zero => exact h0
  | succ n ih =>
    have hk : n < k0_t3_loop.trips := by rw [trips3]; omega
    rw [st_k0_t3_succ (F := Ideal) Variants.none c none arg0 harg0 arg1 harg1 arg2 harg2 arg3 harg3 arg4 harg4 arg5 harg5 w1 w2 w3 subs8 lanes8 k0_pay71 (Named.named κ "big" 1900671690#32) X3 X4 init ⟨n, hk⟩, trip3_eq]
    refine trip_agree C ⟨n, hk⟩ _ _ (fun s l hs => ?_) (fun s l hs => ?_) (ih (by omega))
    · exact (rowAt_apply arg3.view X3 _ ⟨n % 512, by omega⟩ (off11_cost ⟨n, hk⟩) s l).trans (h3 _ s l hs)
    · exact (rowAt_apply arg4.view X4 _ ⟨(n + 511) % 512, by omega⟩ (off11_swap ⟨n, hk⟩) s l).trans (h4 _ s l hs)

theorem lastDiag_on (h3 : Holds arg3.view X3 (G C)) (h4 : Holds arg4.view X4 (W C)) :
    On (lastDiag (F := Ideal) c arg0 harg0 arg1 harg1 arg2 harg2 arg3 harg3 arg4 harg4 arg5 harg5 w1 w2 w3 X3 X4) (wave C 1023).e := by
  unfold lastDiag
  have ht : Scf.trips k0_t3_loop.lb k0_t3_loop.ub k0_t3_loop.st = 1023 := trips3
  rw [ht]
  exact (loop_agree c arg0 harg0 arg1 harg1 arg2 harg2 arg3 harg3 arg4 harg4 arg5 harg5 w1 w2 w3 X3 X4 h3 h4 _ (init_at _) 1023 le_rfl).e

end Loop

/-! ## The output -/

/-- The last cell's own lane, taken out and divided by 512. -/
theorem out_at {e : FVec Ideal S8x128 .f32} {f : ℕ → EReal} (h : On e f) (x : S1x1.Idx) :
    k0_pay1 (F := Ideal) k0_pay71 e x = f 511 * ((1 / 512 : ℝ) : EReal) := by
  pointwise [k0_pay1]
  have hb : Ideal.ofBits .f32 989855744#32 = ((1 / 512 : ℝ) : EReal) := by
    simp [Ideal.ofBits, Ideal.ieee, -EReal.coe_mul]; norm_num
  have hsum : (∑ s : Fin 8, ∑ l : Fin 128, Scalar.select (IntOp.cmpi .eq ((k0_pay71 : IVec S8x128 32) (ix2 s l)) 511#32) (e (ix2 s l)) (0 : EReal)) = f 511 := by
    rw [Finset.sum_eq_single (3 : Fin 8) _ (by simp), Finset.sum_eq_single (127 : Fin 128) _ (by simp)]
    · rw [number_select 3 127 511 (by norm_num), if_pos (by decide)]
      exact h 3 127 (by decide)
    · intro l _ hl
      rw [number_select 3 l 511 (by norm_num), if_neg]
      intro hh
      exact hl (Fin.ext (by have : (3 : Fin 8).val = 3 := rfl; have : (127 : Fin 128).val = 127 := rfl; omega))
    · intro s _ hs
      refine Finset.sum_eq_zero fun l _ => ?_
      rw [number_select s l 511 (by norm_num), if_neg]
      intro hh
      have := l.isLt
      exact hs (Fin.ext (by have : (3 : Fin 8).val = 3 := rfl; omega))
  rw [hb]
  exact congrArg (· * _) hsum

end Cert.Wave

end
-- ==== Proof.BodyValue.lean ====
/- What the kernel's body leaves in its output block: the last cell of the table of soft distances, over 512. -/
module

public import proofs.«01_k».proof.Proof.Wave
public import Idealize.ShloMosaic.Lib.WholeRead

@[expose] public section

set_option maxRecDepth 16384

noncomputable section

namespace Cert.BodyValue

open Idealize.ShloMosaic Idealize.ShloMosaic.TcCoe
open Cert.KernelIdeal Cert.KernelIdeal.Gen Cert.KernelRun Cert.SoftRed Cert.Skew Cert.Repack Cert.Wave

/-- The costs of matching the rows of two matrices. -/
def costs (x y : FVec Ideal S512x1024 .f32) (i j : ℕ) : EReal :=
  if h : i < 512 ∧ j < 512 then -∑ k : Fin 1024, x (ix2 ⟨i, h.1⟩ k) * y (ix2 ⟨j, h.2⟩ k) else 0

/-- The soft distance of the two sequences of rows, over their length. -/
def result (x y : FVec Ideal S512x1024 .f32) : EReal := D (costs x y) 512 512 * ((1 / 512 : ℝ) : EReal)

/-- A load of 128 rows of a whole buffer reads them. -/
theorem chunk_row (a : Memref sig .tc .vmem S512x1024 .f32) (ha : a.IsWhole) (x : Vec Ideal S512x1024 .f32) (o : ℕ)
    (inb : ∀ i, (![o, 0] : Fin 2 → ℕ) i + S128x1024.size i ≤ S512x1024.size i) (l : Fin 128) (k : Fin 1024) (h : o + l.val < 512) :
    View.readAt (Elt Ideal) a.view (Rect.unit (s := S512x1024) ![o, 0] S128x1024.size inb).toLoadRect (ha.unread x) (ix2 l k) = x (ix2 ⟨o + l.val, h⟩ k) := by
  rw [Memref.IsWhole.readAt_unread]
  refine congrArg x (funext fun i => Fin.ext ?_)
  fin_cases i
  · exact congrArg (o + ·) (Nat.one_mul _)
  · exact (Nat.zero_add _).trans (Nat.one_mul _)

/-- A load of all of a whole buffer reads it. -/
theorem all_rows (a : Memref sig .tc .vmem S512x1024 .f32) (ha : a.IsWhole) (x : Vec Ideal S512x1024 .f32) : allB a ha x = x := by
  unfold allB
  exact (View.readAt_full _ _ _).trans (ha.read_unread x)

/-- The rows' products, chunk by chunk, are the costs. -/
theorem costs_eq (x y : FVec Ideal S512x1024 .f32) (o : ℕ) (ho : o + 128 ≤ 512) (a : FVec Ideal S128x1024 .f32)
    (ha : ∀ (l : Fin 128) (k : Fin 1024) (h : o + l.val < 512), a (ix2 l k) = x (ix2 ⟨o + l.val, h⟩ k))
    {b : FVec Ideal S512x1024 .f32} (hb : b = y) (l : Fin 128) (j : Fin 512) :
    -∑ k : Fin 1024, a (ix2 l k) * b (ix2 j k) = costs x y (o + l.val) j.val := by
  subst hb
  have h : o + l.val < 512 := by have := l.isLt; omega
  unfold costs
  rw [dif_pos ⟨h, j.isLt⟩]
  exact congrArg Neg.neg (Finset.sum_congr rfl fun k _ => congrArg (· * _) (ha l k h))

theorem bodyOut_eq (c : Dev nD) (arg0 : Memref sig .tc .vmem S512x1024 .f32) (harg0 : arg0.IsWhole) (arg1 : Memref sig .tc .vmem S512x1024 .f32) (harg1 : arg1.IsWhole) (arg2 : Memref sig .tc .vmem S1x1 .f32) (harg2 : arg2.IsWhole) (arg3 : Memref sig .tc .vmem S512x8x128 .f32) (harg3 : arg3.IsWhole) (arg4 : Memref sig .tc .vmem S512x8x128 .f32) (harg4 : arg4.IsWhole) (arg5 : Memref sig .tc .vmem S4x512x128 .f32) (harg5 : arg5.IsWhole)
    (x y : Vec Ideal S512x1024 .f32) (fs0 : BufTy.Contents (Elt Ideal) arg3.view.ty) (fs1 : BufTy.Contents (Elt Ideal) arg4.view.ty) :
    bodyOut (F := Ideal) c arg0 harg0 arg1 harg1 arg2 harg2 arg3 harg3 arg4 harg4 arg5 harg5 x y fs0 fs1 = fun _ => result x y := by
  have h0 : Costs (costs x y) 0 (skew0 (allB arg1 harg1 y) (chunkA0 arg0 harg0 x)) :=
    skew0_costs (costs_eq x y 0 (by norm_num) _ (fun l k h => chunk_row arg0 harg0 x 0 _ l k h) (all_rows arg1 harg1 y))
  have h1 : Costs (costs x y) 128 (skew1 (allB arg1 harg1 y) (chunkA1 arg0 harg0 x)) :=
    skew1_costs (costs_eq x y 128 (by norm_num) _ (fun l k h => chunk_row arg0 harg0 x 128 _ l k h) (all_rows arg1 harg1 y))
  have h2 : Costs (costs x y) 256 (skew2 (allB arg1 harg1 y) (chunkA2 arg0 harg0 x)) :=
    skew2_costs (costs_eq x y 256 (by norm_num) _ (fun l k h => chunk_row arg0 harg0 x 256 _ l k h) (all_rows arg1 harg1 y))
  have h3 : Costs (costs x y) 384 (skew3 (allB arg1 harg1 y) (chunkA3 arg0 harg0 x)) :=
    skew3_costs (costs_eq x y 384 (by norm_num) _ (fun l k h => chunk_row arg0 harg0 x 384 _ l k h) (all_rows arg1 harg1 y))
  funext i
  unfold bodyOut outOf
  refine (out_at (lastDiag_on c arg0 harg0 arg1 harg1 arg2 harg2 arg3 harg3 arg4 harg4 arg5 harg5 _ _ _ _ _
    (packedCosts_holds c arg0 harg0 arg1 harg1 arg2 harg2 arg3 harg3 arg4 harg4 arg5 harg5 h0 h1 h2 h3 fs0)
    (packedSwaps_holds c arg0 harg0 arg1 harg1 arg2 harg2 arg3 harg3 arg4 harg4 arg5 harg5 h0 h1 h2 h3 (skew3r_eq _ _) fs1)) i).trans ?_
  rw [wave_last]
  rfl

end Cert.BodyValue

end
-- ==== Proof.KernelValue.lean ====
/- The idealized kernel's launch: it runs, its arguments end unchanged, every semaphore counter ends at zero, and its result is
   the soft distance of the two arguments' rows, over their length. -/
module

public import proofs.«01_k».proof.Proof.BodyValue
public import Idealize.ShloMosaic.Lib.Claim
public import Idealize.ShloMosaic.Lib.Pipeline.ValueKit

@[expose] public section

set_option maxRecDepth 16384

noncomputable section

namespace Cert.KernelValue

open Cert.KernelIdeal Cert.KernelIdeal.Gen Cert.KernelRun Cert.BodyValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The proof data of the one pipeline on core `c`: the arrays as the region finds them (`V`); after the body at
    point `t` each input's buffer at its block and the outputs' at the body's result; the invariant the class's
   ; nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (fun _ => result (iblk m c 0 t) (iblk m c 1 t))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (fun _ => result (iblk m c 0 t) (iblk m c 1 t)) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t))

/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  rw [show (dats m 0 c).Φ t.castSucc = Pipeline.ΦA spec0 c from rfl, PhiA0_eq]
  iintro ⟨⟨⟨HS0, HS1, HS2⟩, Hg⟩, Ho, ⟨%d0, H0⟩, ⟨%d1, H1⟩, ⟨%d2, H2⟩⟩
  iapply (body_run c _ _ _ _ _ _ _ _ _ _ _ _ (iblk m c 0 t) (iblk m c 1 t) _ fun fs0 fs1 => bodyOut_eq c _ _ _ _ _ _ _ _ _ _ _ _ _ _ fs0 fs1)
  isplitl [H0]; · iexact H0
  isplitl [H1]; · iexact H1
  isplitl [H2]; · iexists _; iexact H2
  isplitl [HS0]; · iexact HS0
  isplitl [HS1]; · iexact HS1
  isplitl [HS2]; · iexact HS2
  iintro ⟨H0, H1, H2, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  iexact H2

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- THE LAUNCH: `run_main`'s statement, and every semaphore counter of the machine at zero at every final state. -/
theorem run_main_quiescent : θ_run defs (onTc (τ := τ) (main (F := Ideal))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := Ideal))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- THE FRAME: the argument arrays end unchanged and every semaphore counter ends at zero, which is `Cert.quiescent_KernelIdeal`'s statement. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

/-! ## The result -/

/-- The inputs' block numbers. -/
theorem idx : ∀ t : Fin cfg0.N, win0_0.index t = ![0, 0] ∧ win0_1.index t = ![0, 0] :=
  (by decide +kernel : ∀ t : Fin grid0.N, _)

/-- The first argument's block is the whole of it, -/
theorem iblk0 (c : Dev nD) : iblk m c 0 t0_0 = m ((c : Thread nD τ).loc main_arg0) := by
  blk_ext! [iblk, V, idx t0_0]

/-- and so is the second's. -/
theorem iblk1 (c : Dev nD) : iblk m c 1 t0_0 = m ((c : Thread nD τ).loc main_arg1) := by
  blk_ext! [iblk, V, idx t0_0]

/-- The region's output array. -/
theorem region_out (c : Dev nD) : (dats m 0 c).arrAt 2 cfg0.N
    = fun _ => result (m ((c : Thread nD τ).loc main_arg0)) (m ((c : Thread nD τ).loc main_arg1)) := by
  refine (dats m 0 c).arrAt_eq_of_after_last 2 t0_0 (by decide +kernel) _ fun j => ?_
  blk_simp
  rw [after0_2, iblk0, iblk1]

/-- The run, with its result. -/
theorem run_value : θ_run defs (onTc (τ := τ) (main (F := Ideal))) ⟨m, fun _ => 0, ρ⟩ (fun r => ∀ c : Dev nD,
      r.2.mem ((c.tc : Thread nD τ).loc main_v0) = (fun _ => result (m ((c : Thread nD τ).loc main_arg0)) (m ((c : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  run_from run_main m ρ & unchanged m ρ
  unfold Pipeline.afterTail₀
  show StableHlo.after hostOps1 _ (Proc.devRef .tc main_v0) = _
  after_results
  rw [Pipeline.withArrays_arr spec0 launch0.win.arr_inj c (V0 m c) (fun w => (dats m 0 c).arrAt w cfg0.N) 2, region_out]
  rfl

end Cert.KernelValue

end
-- ==== Proof.RefValue.lean ====
/- What the reference's loop computes: trip `n` fills row `n / 512 + 1`, column `n % 512 + 1` of the table of soft distances, so
   after the last trip its last cell is the soft distance of the two arguments' rows. -/
module

public import proofs.«01_k».proof.Proof.Gen.ReferenceIdeal.Run
public import proofs.«01_k».proof.Proof.BodyValue
public import Idealize.ShloMosaic.Lib.Pointwise
public import Idealize.ShloMosaic.Lib.WordCmp
public import Idealize.ShloMosaic.Lib.DynamicIndex

@[expose] public section

set_option maxRecDepth 16384

noncomputable section

namespace Cert.RefValue

open Idealize.ShloMosaic Idealize.ShloMosaic.TcCoe Idealize.SL.Sem
open Idealize.ShloMosaic.StableHlo
open Cert.ReferenceIdeal Cert.ReferenceIdeal.Gen Cert.ReferenceIdeal.Value
open Cert.SoftRed
open Cert.BodyValue (costs result)

/-! ## Words that hold small numbers -/

/-- A scalar word. -/
abbrev Word : Type := IVec S_ 32

/-- The scalar word of a number. -/
def num (k : ℕ) : Word := fun _ => BitVec.ofNat 32 k

theorem num_const (b : BitVec 32) (k : ℕ) (h : b = BitVec.ofNat 32 k) : constantI S_ 32 b = num k := by
  subst h; rfl

theorem num_add (a b : ℕ) : addi (num a) (constantI S_ 32 (BitVec.ofNat 32 b)) = num (a + b) := by
  funext i
  exact (BitVec.ofNat_add a b).symm

theorem num_sub (a b : ℕ) (h : b ≤ a) (ha : a < 2 ^ 31) : subi (num a) (constantI S_ 32 (BitVec.ofNat 32 b)) = num (a - b) := by
  funext i
  show BitVec.ofNat 32 a - BitVec.ofNat 32 b = BitVec.ofNat 32 (a - b)
  apply BitVec.eq_of_toNat_eq
  simp only [BitVec.toNat_sub, BitVec.toNat_ofNat]
  omega

/-- A number less than 2, or less 2, cut off at 0. -/
theorem num_sub_two (a : ℕ) (ha : a < 2 ^ 30) : maxsi (subi (num a) (constantI S_ 32 2#32)) (constantI S_ 32 0#32) = num (a - 2) := by
  funext i
  show IntOp.maxsi (BitVec.ofNat 32 a - 2#32) 0#32 = BitVec.ofNat 32 (a - 2)
  by_cases h : 2 ≤ a
  · have e : BitVec.ofNat 32 a - 2#32 = BitVec.ofNat 32 (a - 2) := congrFun (num_sub a 2 h (by omega)) i
    rw [e]
    unfold IntOp.maxsi
    split
    · rfl
    · rename_i hs
      simp only [BitVec.slt, BitVec.toInt_zero, toInt_ofNat_of_lt (show a - 2 < 2 ^ 31 by omega), decide_eq_true_eq, not_lt] at hs
      have : a - 2 = 0 := by omega
      rw [this]
  · have : a = 0 ∨ a = 1 := by omega
    rcases this with rfl | rfl <;> decide

/-- An index that is not negative is taken as it is. -/
theorem num_index (k : ℕ) (hk : k < 2 ^ 31) (y : Word) : select (cmpi .slt (num k) (constantI S_ 32 0#32)) y (num k) = num k := by
  funext i
  refine select_slt_zero_of_nonneg _ _ _ _ ?_
  show 0 ≤ (BitVec.ofNat 32 k).toInt
  rw [toInt_ofNat_of_lt hk]
  omega

theorem num_div (k : ℕ) (hk : k < 2 ^ 31) : Host.divsi (num k) (constantI S_ 32 512#32) = num (k / 512) := by
  funext i
  show IntOp.divsi .host (BitVec.ofNat 32 k) 512#32 = BitVec.ofNat 32 (k / 512)
  unfold IntOp.divsi
  rw [if_neg (by unfold IntOp.SDivCorner; simp)]
  apply BitVec.eq_of_toInt_eq
  rw [BitVec.toInt_sdiv_of_ne_or_ne _ _ (Or.inr (by decide)), toInt_ofNat_of_lt hk, toInt_ofNat_of_lt (by omega), toInt_ofNat_of_lt (by omega)]
  exact (Int.ofNat_tdiv k 512).symm

theorem num_rem (k : ℕ) (hk : k < 2 ^ 31) : Host.remsi (num k) (constantI S_ 32 512#32) = num (k % 512) := by
  funext i
  show IntOp.remsi .host (BitVec.ofNat 32 k) 512#32 = BitVec.ofNat 32 (k % 512)
  unfold IntOp.remsi
  rw [if_neg (by unfold IntOp.SDivCorner; simp)]
  apply BitVec.eq_of_toInt_eq
  rw [BitVec.toInt_srem, toInt_ofNat_of_lt hk, toInt_ofNat_of_lt (by omega), toInt_ofNat_of_lt (by omega)]
  exact (Int.ofNat_tmod k 512).symm

/-- Whether a number is at least 2. -/
theorem num_ge_two (k : ℕ) (hk : k < 2 ^ 31) (i : S_.Idx) : cmpi .sge (num k) (constantI S_ 32 2#32) i = BitVec.ofBool (decide (2 ≤ k)) := by
  show BitVec.ofBool (decide ((2#32 : BitVec 32).toInt ≤ (BitVec.ofNat 32 k).toInt)) = _
  rw [toInt_ofNat_of_lt hk]
  congr 1
  have : (2#32 : BitVec 32).toInt = 2 := by decide
  rw [this]
  exact decide_eq_decide.mpr (by omega)

/-- An index as an axis of `k` entries takes it, a negative one counted from the end. -/
abbrev wrap (k : BitVec 32) (u : Word) : Word := select (cmpi .slt u (constantI S_ 32 0#32)) (addi u (constantI S_ 32 k)) u

theorem wrap_num (k : BitVec 32) (a : ℕ) (ha : a < 2 ^ 31) : wrap k (num a) = num a := num_index a ha _

/-! ## Reading and writing a cell -/

/-- A cell of the table read at two words. -/
theorem read_table (x : FVec Ideal S513x513 .f32) (u v : Word) (a b : Fin 513) (hu : u = num a.val) (hv : v = num b.val) (i : S_.Idx) :
    shapeCast S_ (Host.dynamicSlice S1x1 x (fun k => ((![wrap 513#32 u, wrap 513#32 v] : Fin 2 → Word) k (Shape.Idx.first h_S_)).toInt) sliceFits_S513x513_S1x1)
      shapeCasts_S1x1_S_ i = x (ix2 a b) := by
  subst hu; subst hv
  rw [wrap_num _ _ (by omega), wrap_num _ _ (by omega)]
  have ha := a.isLt; have hb := b.isLt
  rw [Host.dynamicSlice_eq_extractStridedSlice S1x1 x _ ![a.val, b.val] _ ⟨rfl, fun k => by fin_cases k <;> simp [S1x1, S513x513] <;> omega⟩
    (fun k => by fin_cases k <;> exact toInt_ofNat_of_lt (by omega))]
  pointwise

/-- A cost read at two words. -/
theorem read_cost (x : FVec Ideal S512x512 .f32) (u v : Word) (a b : Fin 512) (hu : u = num a.val) (hv : v = num b.val) (i : S_.Idx) :
    shapeCast S_ (Host.dynamicSlice S1x1 x (fun k => ((![wrap 512#32 u, wrap 512#32 v] : Fin 2 → Word) k (Shape.Idx.first h_S_)).toInt) sliceFits_S512x512_S1x1)
      shapeCasts_S1x1_S_ i = x (ix2 a b) := by
  subst hu; subst hv
  rw [wrap_num _ _ (by omega), wrap_num _ _ (by omega)]
  have ha := a.isLt; have hb := b.isLt
  rw [Host.dynamicSlice_eq_extractStridedSlice S1x1 x _ ![a.val, b.val] _ ⟨rfl, fun k => by fin_cases k <;> simp [S1x1, S512x512] <;> omega⟩
    (fun k => by fin_cases k <;> exact toInt_ofNat_of_lt (by omega))]
  pointwise

/-- A cell of the table written at two words. -/
theorem write_table (x : FVec Ideal S513x513 .f32) (w : FVec Ideal S_ .f32) (u v : Word) (a b : Fin 513) (hu : u = num a.val) (hv : v = num b.val)
    (y : EReal) (hw : ∀ i, w i = y) (r c : Fin 513) :
    Host.dynamicUpdateSlice x (shapeCast S1x1 w shapeCasts_S_S1x1) (fun k => ((![wrap 513#32 u, wrap 513#32 v] : Fin 2 → Word) k (Shape.Idx.first h_S_)).toInt) updateFits_S513x513_S1x1 (ix2 r c)
      = if r = a ∧ c = b then y else x (ix2 r c) := by
  subst hu; subst hv
  rw [wrap_num _ _ (by omega), wrap_num _ _ (by omega)]
  have ha := a.isLt; have hb := b.isLt
  have key : ∀ k, Host.clampedStart S513x513 S1x1 updateFits_S513x513_S1x1.1
      (fun k => ((![num a.val, num b.val] : Fin 2 → Word) k (Shape.Idx.first h_S_)).toInt) k = (![a.val, b.val] : Fin 2 → ℕ) k := fun k =>
    Host.clampedStart_of_le _ _ _ _ (by fin_cases k <;> exact toInt_ofNat_of_lt (by omega)) (by fin_cases k <;> simp [S1x1, S513x513] <;> omega)
  rw [Host.dynamicUpdateSlice_apply]
  by_cases h : r = a ∧ c = b
  · obtain ⟨rfl, rfl⟩ := h
    rw [if_pos ⟨rfl, rfl⟩, dif_pos]
    · exact hw _
    · intro k
      rw [key]
      fin_cases k
      · exact ⟨le_refl _, Nat.lt_succ_self _⟩
      · exact ⟨le_refl _, Nat.lt_succ_self _⟩
  · rw [if_neg h, dif_neg]
    intro hin
    have h0 := hin 0
    have h1 := hin 1
    rw [key] at h0 h1
    have h0' : a.val ≤ r.val ∧ r.val < a.val + 1 := h0
    have h1' : b.val ≤ c.val ∧ c.val < b.val + 1 := h1
    exact h ⟨Fin.ext (by omega), Fin.ext (by omega)⟩

/-! ## A trip's words

A trip finds its number `n` in a word; from it come the row and the column of the cell it fills, and of the ones before. -/

section Words

variable {n : ℕ} (hn : n < 262144) {V : Valuation τ sig (Elt Ideal)} (hV : V (Proc.devRef .tc main_v9_2) = num n)
include hn hV

theorem row : res_main_while0b_v16 V = num (n / 512 + 1) := by
  unfold res_main_while0b_v16
  rw [hV]
  exact (congrArg (addi · _) (num_div n (by omega))).trans (num_add _ _)
theorem col : res_main_while0b_v18 V = num (n % 512 + 1) := by
  unfold res_main_while0b_v18
  rw [hV]
  exact (congrArg (addi · _) (num_rem n (by omega))).trans (num_add _ _)

/-- The row and the column before, -/
theorem row1 : subi (res_main_while0b_v16 V) (constantI S_ 32 1#32) = num (n / 512) := by
  rw [row hn hV]; exact num_sub _ 1 (by omega) (by omega)
theorem col1 : subi (res_main_while0b_v18 V) (constantI S_ 32 1#32) = num (n % 512) := by
  rw [col hn hV]; exact num_sub _ 1 (by omega) (by omega)
/-- and the ones before those, if there are any. -/
theorem row2 : res_main_while0b_v23 V = num (n / 512 - 1) := by
  unfold res_main_while0b_v23
  rw [row hn hV]; exact num_sub_two _ (by omega)
theorem col2 : res_main_while0b_v25 V = num (n % 512 - 1) := by
  unfold res_main_while0b_v25
  rw [col hn hV]; exact num_sub_two _ (by omega)

/-- Whether a swap can end at the cell. -/
theorem swap (i : S_.Idx) : res_main_while0b_v21 V i = BitVec.ofBool (decide (1 ≤ n / 512 ∧ 1 ≤ n % 512)) := by
  unfold res_main_while0b_v21
  rw [row hn hV, col hn hV]
  show IntOp.andi _ _ = _
  rw [num_ge_two _ (by omega), num_ge_two _ (by omega)]
  have h1 : decide (2 ≤ n / 512 + 1) = decide (1 ≤ n / 512) := decide_eq_decide.mpr (by omega)
  have h2 : decide (2 ≤ n % 512 + 1) = decide (1 ≤ n % 512) := decide_eq_decide.mpr (by omega)
  rw [h1, h2, Bool.decide_and]
  cases decide (1 ≤ n / 512) <;> cases decide (1 ≤ n % 512) <;> rfl

end Words

/-! ## A cell's operations -/

section Operations

variable {p : Prop} [Decidable p] {v : IVec S_ 1} {a b c d g e : FVec Ideal S_ .f32} {i : S_.Idx} {x1 x2 x3 x4 : EReal}

theorem bool_select (x y : EReal) : Scalar.select (BitVec.ofBool (decide p)) x y = if p then x else y := by
  by_cases h : p <;> simp [Scalar.select, h]

theorem min_of (hv : v i = BitVec.ofBool (decide p)) (h1 : a i = x1) (h2 : b i = x2) (h3 : c i = x3) (h4 : d i = x4) :
    select v (minimumf (minimumf (minimumf a b) c) d) (minimumf (minimumf a b) c) i = minR p x1 x2 x3 x4 := by
  show Scalar.select (v i) (min (min (min (a i) (b i)) (c i)) (d i)) (min (min (a i) (b i)) (c i)) = _
  rw [hv, bool_select, h1, h2, h3, h4]
  rfl

theorem cell_of (hv : v i = BitVec.ofBool (decide p)) (h1 : a i = x1) (h2 : b i = x2) (h3 : c i = x3) (h4 : d i = x4) (hg : g i = gam)
    (he : e i = minR p x1 x2 x3 x4) :
    addf (mulf (Host.negf g) (Host.log (addf (addf (addf (Host.exp (Host.divf (Host.negf (subf a e)) g)) (Host.exp (Host.divf (Host.negf (subf b e)) g)))
      (Host.exp (Host.divf (Host.negf (subf c e)) g))) (select v (Host.exp (Host.divf (Host.negf (subf d e)) g)) (constant S_ .f32 0x00000000#32))))) e i
      = cellR p x1 x2 x3 x4 := by
  show -(g i) * Ideal.log (((Ideal.exp (Ideal.div (-(a i - e i)) (g i)) + Ideal.exp (Ideal.div (-(b i - e i)) (g i))) + Ideal.exp (Ideal.div (-(c i - e i)) (g i)))
    + Scalar.select (v i) (Ideal.exp (Ideal.div (-(d i - e i)) (g i))) (Ideal.ofBits .f32 0x00000000#32)) + e i = _
  rw [hv, bool_select, h1, h2, h3, h4, hg, he, Ideal.ofBits_zero_f32]
  rfl

end Operations

/-! ## A trip's cell -/

/-- The table and the costs a trip finds, at numbers. -/
def tab (V : Valuation τ sig (Elt Ideal)) (r c : ℕ) : EReal :=
  if h : r < 513 ∧ c < 513 then (V (Proc.devRef .tc main_v9_3) : FVec Ideal S513x513 .f32) (ix2 ⟨r, h.1⟩ ⟨c, h.2⟩) else 0
def cst (V : Valuation τ sig (Elt Ideal)) (r c : ℕ) : EReal :=
  if h : r < 512 ∧ c < 512 then (V (Proc.devRef .tc main_v9_0) : FVec Ideal S512x512 .f32) (ix2 ⟨r, h.1⟩ ⟨c, h.2⟩) else 0

section Cell

variable {n : ℕ} (hn : n < 262144) {V : Valuation τ sig (Elt Ideal)} (hV : V (Proc.devRef .tc main_v9_2) = num n)

theorem tab_read {u v : Word} {a b : ℕ} (hu : u = num a) (hv : v = num b) (ha : a < 513) (hb : b < 513) (i : S_.Idx) :
    shapeCast S_ (Host.dynamicSlice S1x1 (V (Proc.devRef .tc main_v9_3) : FVec Ideal S513x513 .f32)
      (fun k => ((![wrap 513#32 u, wrap 513#32 v] : Fin 2 → Word) k (Shape.Idx.first h_S_)).toInt) sliceFits_S513x513_S1x1) shapeCasts_S1x1_S_ i = tab V a b :=
  (read_table _ u v ⟨a, ha⟩ ⟨b, hb⟩ hu hv i).trans (by unfold tab; rw [dif_pos ⟨ha, hb⟩])

theorem cst_read {u v : Word} {a b : ℕ} (hu : u = num a) (hv : v = num b) (ha : a < 512) (hb : b < 512) (i : S_.Idx) :
    shapeCast S_ (Host.dynamicSlice S1x1 (V (Proc.devRef .tc main_v9_0) : FVec Ideal S512x512 .f32)
      (fun k => ((![wrap 512#32 u, wrap 512#32 v] : Fin 2 → Word) k (Shape.Idx.first h_S_)).toInt) sliceFits_S512x512_S1x1) shapeCasts_S1x1_S_ i = cst V a b :=
  (read_cost _ u v ⟨a, ha⟩ ⟨b, hb⟩ hu hv i).trans (by unfold cst; rw [dif_pos ⟨ha, hb⟩])

/-- The four candidates. -/
def t1 (V : Valuation τ sig (Elt Ideal)) (n : ℕ) : EReal := tab V (n / 512) (n % 512) + cst V (n / 512) (n % 512)
def t2 (V : Valuation τ sig (Elt Ideal)) (n : ℕ) : EReal := tab V (n / 512) (n % 512 + 1) + two
def t3 (V : Valuation τ sig (Elt Ideal)) (n : ℕ) : EReal := tab V (n / 512 + 1) (n % 512) + two
def t4 (V : Valuation τ sig (Elt Ideal)) (n : ℕ) : EReal :=
  ((tab V (n / 512 - 1) (n % 512 - 1) + cst V (n / 512 - 1) (n % 512)) + cst V (n / 512) (n % 512 - 1)) + two

include hn hV

/-- A match, -/
theorem match_eq (i : S_.Idx) : res_main_while0b_v46 V i = t1 V n :=
  congrArg₂ (· + ·) (tab_read (row1 hn hV) (col1 hn hV) (by omega) (by omega) i) (cst_read (row1 hn hV) (col1 hn hV) (by omega) (by omega) i)
/-- a deletion, -/
theorem delete_eq (i : S_.Idx) : res_main_while0b_v56 V i = t2 V n :=
  congrArg₂ (· + ·) (tab_read (row1 hn hV) (col hn hV) (by omega) (by omega) i) Cert.Skew.two_bits
/-- an insertion -/
theorem insert_eq (i : S_.Idx) : res_main_while0b_v66 V i = t3 V n :=
  congrArg₂ (· + ·) (tab_read (row hn hV) (col1 hn hV) (by omega) (by omega) i) Cert.Skew.two_bits
/-- and a swap. -/
theorem swap_eq (i : S_.Idx) : res_main_while0b_v95 V i = t4 V n :=
  congrArg₂ (· + ·) (congrArg₂ (· + ·) (congrArg₂ (· + ·) (tab_read (row2 hn hV) (col2 hn hV) (by omega) (by omega) i)
    (cst_read (row2 hn hV) (col1 hn hV) (by omega) (by omega) i)) (cst_read (row1 hn hV) (col2 hn hV) (by omega) (by omega) i)) Cert.Skew.two_bits

omit hn hV in
/-- The temperature. -/
theorem temperature (i : S_.Idx) : res_main_while0b_v14 V i = gam := by
  have h1 : Ideal.ofBits .f32 0x3F800000#32 = ((1 : ℝ) : EReal) := by
    rw [Ideal.ofBits_one_f32]; rfl
  have h2 : Ideal.ofBits .f32 0x42C80000#32 = ((100 : ℝ) : EReal) := by
    simp [Ideal.ofBits, Ideal.ieee, -EReal.coe_mul]; norm_num
  show Ideal.div (Ideal.ofBits .f32 0x3F800000#32) (Ideal.ofBits .f32 0x42C80000#32) = _
  rw [h1, h2]
  rfl

/-- The minimum of the candidates. -/
theorem min_eq (i : S_.Idx) : res_main_while0b_v99 V i = minR (1 ≤ n / 512 ∧ 1 ≤ n % 512) (t1 V n) (t2 V n) (t3 V n) (t4 V n) :=
  (min_of (swap hn hV i) (match_eq hn hV i) (delete_eq hn hV i) (insert_eq hn hV i) (swap_eq hn hV i) :)

/-- The cell a trip fills. -/
def cell (V : Valuation τ sig (Elt Ideal)) (n : ℕ) : EReal := cellR (1 ≤ n / 512 ∧ 1 ≤ n % 512) (t1 V n) (t2 V n) (t3 V n) (t4 V n)

/-- The table after a trip. -/
theorem step_tab (r c : ℕ) (hr : r < 513) (hc : c < 513) : tab (STEP V) r c = if r = n / 512 + 1 ∧ c = n % 512 + 1 then cell V n else tab V r c := by
  have ht : tab (STEP V) r c = (step_main_v9_3 V : FVec Ideal S513x513 .f32) (ix2 ⟨r, hr⟩ ⟨c, hc⟩) := by
    unfold tab
    rw [dif_pos ⟨hr, hc⟩, STEP_main_v9_3]
  rw [ht]
  refine (write_table (V (Proc.devRef .tc main_v9_3) : FVec Ideal S513x513 .f32) _ (res_main_while0b_v16 V) (res_main_while0b_v18 V)
    ⟨n / 512 + 1, by omega⟩ ⟨n % 512 + 1, by omega⟩ (row hn hV) (col hn hV) (cell V n) (fun i => ?_) ⟨r, hr⟩ ⟨c, hc⟩).trans ?_
  · exact cell_of (swap hn hV i) (match_eq hn hV i) (delete_eq hn hV i) (insert_eq hn hV i) (swap_eq hn hV i) (temperature i) (min_eq hn hV i)
  · simp only [Fin.mk.injEq]
    unfold tab
    rw [dif_pos (⟨hr, hc⟩ : r < 513 ∧ c < 513)]

end Cell

/-! ## The table after every trip -/

/-- After `n` trips the borders and the cells the trips filled hold the table. -/
structure Filled (C : ℕ → ℕ → EReal) (n : ℕ) (V : Valuation τ sig (Elt Ideal)) : Prop where
  number : V (Proc.devRef .tc main_v9_2) = num n
  cost : ∀ i j, i < 512 → j < 512 → cst V i j = C i j
  row : ∀ c, c < 513 → tab V 0 c = border c
  col : ∀ r, r < 513 → tab V r 0 = border r
  cell : ∀ r c, r < 512 → c < 512 → r * 512 + c < n → tab V (r + 1) (c + 1) = D C (r + 1) (c + 1)

theorem filled_step {C : ℕ → ℕ → EReal} {n : ℕ} (hn : n < 262144) {V : Valuation τ sig (Elt Ideal)} (h : Filled C n V) : Filled C (n + 1) (STEP V) where
  number := by
    rw [STEP_main_v9_2]
    unfold step_main_v9_2
    rw [h.number]
    exact num_add n 1
  cost i j hi hj := by
    rw [← h.cost i j hi hj]
    unfold cst
    rw [STEP_main_v9_0]
  row c hc := by rw [step_tab hn h.number 0 c (by omega) hc, if_neg (by omega)]; exact h.row c hc
  col r hr := by rw [step_tab hn h.number r 0 hr (by omega), if_neg (by omega)]; exact h.col r hr
  cell r c hr hc hrc := by
    rw [step_tab hn h.number (r + 1) (c + 1) (by omega) (by omega)]
    by_cases e : r + 1 = n / 512 + 1 ∧ c + 1 = n % 512 + 1
    · rw [if_pos e]
      have er : n / 512 = r := by omega
      have ec : n % 512 = c := by omega
      -- every cell above or to the left is filled already
      have hT : ∀ i j, i ≤ r + 1 → j ≤ c + 1 → (i ≤ r ∨ j ≤ c) → tab V i j = D C i j := by
        intro i j hi hj hij
        rcases Nat.eq_zero_or_pos i with rfl | hi0
        · rw [h.row j (by omega), D_zero]
        rcases Nat.eq_zero_or_pos j with rfl | hj0
        · rw [h.col i (by omega), D_col]
        have := h.cell (i - 1) (j - 1) (by omega) (by omega) (by omega)
        rwa [Nat.sub_add_cancel hi0, Nat.sub_add_cancel hj0] at this
      unfold cell t1 t2 t3 t4
      rw [er, ec, D_succ, hT r c (by omega) (by omega) (by omega), hT r (c + 1) (by omega) (by omega) (by omega),
        hT (r + 1) c (by omega) (by omega) (by omega), hT (r - 1) (c - 1) (by omega) (by omega) (by omega),
        h.cost r c hr hc, h.cost (r - 1) c (by omega) hc, h.cost r (c - 1) hr (by omega)]
    · rw [if_neg e]
      exact h.cell r c hr hc (by omega)

section Run

variable (m : (ℓ : Loc nD τ sig) → Buf (Elt Ideal) ℓ) (c : Dev nD)

/-- The costs of one core's arguments. -/
abbrev argCosts : ℕ → ℕ → EReal := costs (m ((c.tc : Thread nD τ).loc main_arg0)) (m ((c.tc : Thread nD τ).loc main_arg1))

set_option maxRecDepth 65536 in
/-- Before the first trip only the borders are filled. -/
theorem filled_entry : Filled (argCosts m c) 0 (entryContents preI m c) := by
  have hb : ∀ r k, r < 513 → k < 513 → tab (entryContents preI m c) r k = border (r + k) := by
    intro r k hr hk
    unfold tab
    rw [dif_pos ⟨hr, hk⟩]
    simp only [entryContents, afterL_cons, afterL_nil]
    after_reads_simp
    rw [id_eq]
    pointwise
    have e : IntOp.addi (BitVec.ofNat 32 r) (BitVec.ofNat 32 k) = BitVec.ofNat 32 (r + k) := (BitVec.ofNat_add r k).symm
    have h := toInt_ofNat_of_lt (show r + k < 2 ^ 31 by omega)
    rw [e, Cert.Skew.two_bits]
    show ((((BitVec.ofNat 32 (r + k)).toInt : ℝ)) : EReal) * two = border (r + k)
    rw [h]
    rfl
  refine ⟨?_, ?_, fun k hk => ?_, fun r hr => ?_, fun r k _ _ h => absurd h (by omega)⟩
  · simp only [entryContents, afterL_cons, afterL_nil]
    after_reads_simp
    rfl
  · intro i j hi hj
    unfold cst argCosts costs
    rw [dif_pos ⟨hi, hj⟩, dif_pos ⟨hi, hj⟩]
    simp only [entryContents, afterL_cons, afterL_nil]
    after_reads_simp
    rw [id_eq]
    pointwise
  · rw [hb 0 k (by omega) hk, Nat.zero_add]
  · rw [hb r 0 hr (by omega), Nat.add_zero]

theorem filled (n : ℕ) (hn : n ≤ 262144) : Filled (argCosts m c) n (STEP^[n] (entryContents preI m c)) := by
  induction n with
  | zero => exact filled_entry m c
  | succ n ih =>
    rw [Function.iterate_succ_apply']
    exact filled_step (by omega) (ih (by omega))

/-- The result read off a filled table. -/
theorem out_of_filled {x y : FVec Ideal S512x1024 .f32} {V : Valuation τ sig (Elt Ideal)} (h : Filled (costs x y) 262144 V) : out_main_v12 V = fun _ => result x y := by
  have hd : Ideal.ofBits .f32 0x44000000#32 = ((512 : ℝ) : EReal) := by
    simp [Ideal.ofBits, Ideal.ieee, -EReal.coe_mul]; norm_num
  have ht : (V (Proc.devRef .tc main_v9_3) : FVec Ideal S513x513 .f32) (ix2 512 512) = D (costs x y) 512 512 := by
    rw [← h.cell 511 511 (by omega) (by omega) (by omega)]
    unfold tab
    rw [dif_pos (⟨by omega, by omega⟩ : 511 + 1 < 513 ∧ 511 + 1 < 513)]
    rfl
  funext i
  show Ideal.div (shapeCast S_ (extractStridedSlice S1x1 ![512, 512] (V (Proc.devRef .tc main_v9_3) : FVec Ideal S513x513 .f32) slices_S513x513_S1x1_512_512)
    shapeCasts_S1x1_S_ i) (Ideal.ofBits .f32 0x44000000#32) = _
  pointwise
  rw [hd, Ideal.div_coe (by norm_num : (512 : ℝ) ≠ 0)]
  exact congrArg (· * _) ht

/-- The reference run: the result is the scaled corner of the table, and the arguments are as they were. -/
theorem run_value (ρ : Dev nD → PrngReg) :
    θ_run (defs (F := Ideal)) (onTc (τ := τ) (main (F := Ideal))) ⟨m, fun _ => 0, ρ⟩ fun r => ∀ c : Dev nD,
      r.2.mem ((c.tc : Thread nD τ).loc main_v12) = (fun _ => result (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run (defs (F := Ideal)) _ _).mono (fun _ h c => ⟨(h c).1.trans (out_of_filled (filled m c 262144 le_rfl)), (h c).2⟩) (Value.run (F := Ideal) m ρ)

end Run

end Cert.RefValue

end
-- ==== Proof.lean ====
/- The certificate of the soft restricted edit distance: the three frames, the idealization's named constants, and the equality of the kernel with the reference. -/
module

public import proofs.«01_k».proof.Defs
public import proofs.«01_k».proof.Proof.KernelFrame
public import proofs.«01_k».proof.Proof.KernelValue
public import proofs.«01_k».proof.Proof.RefValue
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel runs, leaves its arguments and ends with every counter at zero. -/
theorem frame_p : Cert.quiescent_Kernel := fun m ρ _ => Cert.KernelFrame.frame m ρ

/-- So does its idealization. -/
theorem frame_pi : Cert.quiescent_KernelIdeal := fun m ρ _ => Cert.KernelValue.frame m ρ

/-- So does the reference. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Each named constant of the ideal kernel is the value its name stands for. -/
theorem preserves : Cert.preserves_Kernel_KernelIdeal :=
  ⟨IdealRules.named_const.statement Cert.KernelIdeal.κ "big" .f32 0x7149F2CA#32 ⊤ rfl,
    IdealRules.named_const.statement Cert.KernelIdeal.κ "inv_alpha_ln2" .f32 0x431044FE#32 ((100 * (Real.log 2)⁻¹ : ℝ) : EReal) rfl,
    IdealRules.named_const.statement Cert.KernelIdeal.κ "log2e" .f32 0x3FB8AA3B#32 (((Real.log 2)⁻¹ : ℝ) : EReal) rfl,
    IdealRules.named_const.statement Cert.KernelIdeal.κ "alpha_ln2" .f32 0x3BE32166#32 (((1 / 100) * (Real.log 2) : ℝ) : EReal) rfl⟩

/-- The ideal kernel and the reference end with the same number: the corner of one table, over 512. -/
theorem algebraic : Cert.algebraic_KernelIdeal_ReferenceIdeal := fun m g m' g' _ hagree => by
  refine ⟨_, Cert.KernelValue.run_value m g, ?_⟩
  refine (θ_run (Cert.ReferenceIdeal.defs (F := Ideal)) _ _).mono (fun r h c => ⟨(h c).1.trans ?_, (h c).2⟩) (Cert.RefValue.run_value m' g')
  rw [(hagree c).1, (hagree c).2]
  rfl

theorem claim : Cert.Claim := ⟨Cert.Kernel.Gen.facts, Cert.KernelIdeal.Gen.facts, Cert.ReferenceIdeal.Gen.facts,
  frame_p, frame_pi, frame_ri, preserves, algebraic⟩

end Cert.Proof

end
